-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x128 : Shape := ⟨2, ![8192, 128]⟩
abbrev S_ : Shape := ⟨0, ![]⟩
abbrev S8192 : Shape := ⟨1, ![8192]⟩
abbrev S1048576 : Shape := ⟨1, ![1048576]⟩
abbrev S2097152 : Shape := ⟨1, ![2097152]⟩
abbrev S32768 : Shape := ⟨1, ![32768]⟩
abbrev S65536 : Shape := ⟨1, ![65536]⟩
abbrev S16 : Shape := ⟨1, ![16]⟩
abbrev S4096 : Shape := ⟨1, ![4096]⟩
abbrev S16384x128 : Shape := ⟨2, ![16384, 128]⟩

abbrev nBuf : Table → Nat
  | .hbm => 6
  | .local .scVector .vmem => 2
  | _ => 0

abbrev bufTy : (tb : Table) → Fin (nBuf tb) → BufTy
  | .hbm, ⟨0, _⟩ => ⟨S8192x128, .f32⟩
  | .hbm, ⟨1, _⟩ => ⟨S_, .f32⟩
  | .hbm, ⟨2, _⟩ => ⟨S8192, .f32⟩
  | .hbm, ⟨3, _⟩ => ⟨S1048576, .f32⟩
  | .hbm, ⟨4, _⟩ => ⟨S2097152, .f32⟩
  | .hbm, ⟨5, _⟩ => ⟨S16384x128, .f32⟩
  | .local .scVector .vmem, ⟨0, _⟩ => ⟨S32768, .f32⟩
  | .local .scVector .vmem, ⟨1, _⟩ => ⟨S65536, .f32⟩
  | _, _ => ⟨S8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v11 : BitVec 32 := Scalar.addi v2 c0_i32_2
  ![v11.toNat]
@[reducible] def k0_t1_loop : Scf.Loop 32 :=
  let c0_i32_35 : BitVec 32 := 0#32
  let c32_i32 : BitVec 32 := 32#32
  let v71 : BitVec 32 := Scalar.addi c0_i32_35 c32_i32
  let c1_i32_36 : BitVec 32 := 1#32
  ⟨c0_i32_35, v71, c1_i32_36⟩
def k0_off2 (k0_t1 : Fin k0_t1_loop.trips) : Fin 1 → Nat :=
  let c0_i32_141 : BitVec 32 := 0#32
  let c0_i32_35 : BitVec 32 := 0#32
  let c1_i32_36 : BitVec 32 := 1#32
  let arg31 : BitVec 32 := Scf.iv c0_i32_35 c1_i32_36 k0_t1
  let c128_i32 : BitVec 32 := 128#32
  let v193 : BitVec 32 := Scalar.muli arg31 c128_i32
  let v194 : BitVec 32 := Scalar.addi c0_i32_141 v193
  let c0_i32_142 : BitVec 32 := 0#32
  let v195 : BitVec 32 := Scalar.addi v194 c0_i32_142
  let v196 : Index := Scalar.indexCast v195
  ![v196.toNat]

def k0_chk1 (v202 : IVec S16 32) : Prop :=
  (∀ a x, ((![v202] : Fin 1 → IVec S16 32) a x).toNat < S8192.size a)
theorem k0_idx1_inb : ∀ (v202 : IVec S16 32) (k0_hw1 : k0_chk1 v202), ∀ a x, ((![v202] : Fin 1 → IVec S16 32) a x).toNat < S8192.size a := fun v202 k0_hw1 => k0_hw1
def k0_off3 (k0_t1 : Fin k0_t1_loop.trips) : Fin 1 → Nat :=
  let c0_i32_141 : BitVec 32 := 0#32
  let c0_i32_35 : BitVec 32 := 0#32
  let c1_i32_36 : BitVec 32 := 1#32
  let arg31 : BitVec 32 := Scf.iv c0_i32_35 c1_i32_36 k0_t1
  let c128_i32 : BitVec 32 := 128#32
  let v193 : BitVec 32 := Scalar.muli arg31 c128_i32
  let v194 : BitVec 32 := Scalar.addi c0_i32_141 v193
  let c16_i32 : BitVec 32 := 16#32
  let v204 : BitVec 32 := Scalar.addi v194 c16_i32
  let v205 : Index := Scalar.indexCast v204
  ![v205.toNat]

def k0_chk2 (v211 : IVec S16 32) : Prop :=
  (∀ a x, ((![v211] : Fin 1 → IVec S16 32) a x).toNat < S8192.size a)
theorem k0_idx2_inb : ∀ (v211 : IVec S16 32) (k0_hw2 : k0_chk2 v211), ∀ a x, ((![v211] : Fin 1 → IVec S16 32) a x).toNat < S8192.size a := fun v211 k0_hw2 => k0_hw2
def k0_off4 (k0_t1 : Fin k0_t1_loop.trips) : Fin 1 → Nat :=
  let c0_i32_141 : BitVec 32 := 0#32
  let c0_i32_35 : BitVec 32 := 0#32
  let c1_i32_36 : BitVec 32 := 1#32
  let arg31 : BitVec 32 := Scf.iv c0_i32_35 c1_i32_36 k0_t1
  let c128_i32 : BitVec 32 := 128#32
  let v193 : BitVec 32 := Scalar.muli arg31 c128_i32
  let v194 : BitVec 32 := Scalar.addi c0_i32_141 v193
  let c32_i32_151 : BitVec 32 := 32#32
  let v213 : BitVec 32 := Scalar.addi v194 c32_i32_151
  let v214 : Index := Scalar.indexCast v213
  ![v214.toNat]

def k0_chk3 (v220 : IVec S16 32) : Prop :=
  (∀ a x, ((![v220] : Fin 1 → IVec S16 32) a x).toNat < S8192.size a)
theorem k0_idx3_inb : ∀ (v220 : IVec S16 32) (k0_hw3 : k0_chk3 v220), ∀ a x, ((![v220] : Fin 1 → IVec S16 32) a x).toNat < S8192.size a := fun v220 k0_hw3 => k0_hw3
def k0_off5 (k0_t1 : Fin k0_t1_loop.trips) : Fin 1 → Nat :=
  let c0_i32_141 : BitVec 32 := 0#32
  let c0_i32_35 : BitVec 32 := 0#32
  let c1_i32_36 : BitVec 32 := 1#32
  let arg31 : BitVec 32 := Scf.iv c0_i32_35 c1_i32_36 k0_t1
  let c128_i32 : BitVec 32 := 128#32
  let v193 : BitVec 32 := Scalar.muli arg31 c128_i32
  let v194 : BitVec 32 := Scalar.addi c0_i32_141 v193
  let c48_i32 : BitVec 32 := 48#32
  let v222 : BitVec 32 := Scalar.addi v194 c48_i32
  let v223 : Index := Scalar.indexCast v222
  ![v223.toNat]

def k0_chk4 (v229 : IVec S16 32) : Prop :=
  (∀ a x, ((![v229] : Fin 1 → IVec S16 32) a x).toNat < S8192.size a)
theorem k0_idx4_inb : ∀ (v229 : IVec S16 32) (k0_hw4 : k0_chk4 v229), ∀ a x, ((![v229] : Fin 1 → IVec S16 32) a x).toNat < S8192.size a := fun v229 k0_hw4 => k0_hw4
def k0_off6 (k0_t1 : Fin k0_t1_loop.trips) : Fin 1 → Nat :=
  let c0_i32_141 : BitVec 32 := 0#32
  let c0_i32_35 : BitVec 32 := 0#32
  let c1_i32_36 : BitVec 32 := 1#32
  let arg31 : BitVec 32 := Scf.iv c0_i32_35 c1_i32_36 k0_t1
  let c128_i32 : BitVec 32 := 128#32
  let v193 : BitVec 32 := Scalar.muli arg31 c128_i32
  let v194 : BitVec 32 := Scalar.addi c0_i32_141 v193
  let c64_i32_158 : BitVec 32 := 64#32
  let v231 : BitVec 32 := Scalar.addi v194 c64_i32_158
  let v232 : Index := Scalar.indexCast v231
  ![v232.toNat]

def k0_chk5 (v238 : IVec S16 32) : Prop :=
  (∀ a x, ((![v238] : Fin 1 → IVec S16 32) a x).toNat < S8192.size a)
theorem k0_idx5_inb : ∀ (v238 : IVec S16 32) (k0_hw5 : k0_chk5 v238), ∀ a x, ((![v238] : Fin 1 → IVec S16 32) a x).toNat < S8192.size a := fun v238 k0_hw5 => k0_hw5
def k0_off7 (k0_t1 : Fin k0_t1_loop.trips) : Fin 1 → Nat :=
  let c0_i32_141 : BitVec 32 := 0#32
  let c0_i32_35 : BitVec 32 := 0#32
  let c1_i32_36 : BitVec 32 := 1#32
  let arg31 : BitVec 32 := Scf.iv c0_i32_35 c1_i32_36 k0_t1
  let c128_i32 : BitVec 32 := 128#32
  let v193 : BitVec 32 := Scalar.muli arg31 c128_i32
  let v194 : BitVec 32 := Scalar.addi c0_i32_141 v193
  let c80_i32 : BitVec 32 := 80#32
  let v240 : BitVec 32 := Scalar.addi v194 c80_i32
  let v241 : Index := Scalar.indexCast v240
  ![v241.toNat]

def k0_chk6 (v247 : IVec S16 32) : Prop :=
  (∀ a x, ((![v247] : Fin 1 → IVec S16 32) a x).toNat < S8192.size a)
theorem k0_idx6_inb : ∀ (v247 : IVec S16 32) (k0_hw6 : k0_chk6 v247), ∀ a x, ((![v247] : Fin 1 → IVec S16 32) a x).toNat < S8192.size a := fun v247 k0_hw6 => k0_hw6
def k0_off8 (k0_t1 : Fin k0_t1_loop.trips) : Fin 1 → Nat :=
  let c0_i32_141 : BitVec 32 := 0#32
  let c0_i32_35 : BitVec 32 := 0#32
  let c1_i32_36 : BitVec 32 := 1#32
  let arg31 : BitVec 32 := Scf.iv c0_i32_35 c1_i32_36 k0_t1
  let c128_i32 : BitVec 32 := 128#32
  let v193 : BitVec 32 := Scalar.muli arg31 c128_i32
  let v194 : BitVec 32 := Scalar.addi c0_i32_141 v193
  let c96_i32_166 : BitVec 32 := 96#32
  let v249 : BitVec 32 := Scalar.addi v194 c96_i32_166
  let v250 : Index := Scalar.indexCast v249
  ![v250.toNat]

def k0_chk7 (v256 : IVec S16 32) : Prop :=
  (∀ a x, ((![v256] : Fin 1 → IVec S16 32) a x).toNat < S8192.size a)
theorem k0_idx7_inb : ∀ (v256 : IVec S16 32) (k0_hw7 : k0_chk7 v256), ∀ a x, ((![v256] : Fin 1 → IVec S16 32) a x).toNat < S8192.size a := fun v256 k0_hw7 => k0_hw7
def k0_off9 (k0_t1 : Fin k0_t1_loop.trips) : Fin 1 → Nat :=
  let c0_i32_141 : BitVec 32 := 0#32
  let c0_i32_35 : BitVec 32 := 0#32
  let c1_i32_36 : BitVec 32 := 1#32
  let arg31 : BitVec 32 := Scf.iv c0_i32_35 c1_i32_36 k0_t1
  let c128_i32 : BitVec 32 := 128#32
  let v193 : BitVec 32 := Scalar.muli arg31 c128_i32
  let v194 : BitVec 32 := Scalar.addi c0_i32_141 v193
  let c112_i32 : BitVec 32 := 112#32
  let v258 : BitVec 32 := Scalar.addi v194 c112_i32
  let v259 : Index := Scalar.indexCast v258
  ![v259.toNat]

def k0_chk8 (v265 : IVec S16 32) : Prop :=
  (∀ a x, ((![v265] : Fin 1 → IVec S16 32) a x).toNat < S8192.size a)
theorem k0_idx8_inb : ∀ (v265 : IVec S16 32) (k0_hw8 : k0_chk8 v265), ∀ a x, ((![v265] : Fin 1 → IVec S16 32) a x).toNat < S8192.size a := fun v265 k0_hw8 => k0_hw8
def k0_off10 (i : grid0.Coords) (c0_i32_38 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v3 : BitVec 32 := Scalar.muli v1 c65536_i32
  let v72 : BitVec 32 := Scalar.addi v3 c0_i32_38
  ![v72.toNat]
@[reducible] def k0_t2_loop : Scf.Loop 32 :=
  let c0_i32_46 : BitVec 32 := 0#32
  let c32_i32_47 : BitVec 32 := 32#32
  let v83 : BitVec 32 := Scalar.addi c0_i32_46 c32_i32_47
  let c1_i32_48 : BitVec 32 := 1#32
  ⟨c0_i32_46, v83, c1_i32_48⟩
def k0_off11 (k0_t2 : Fin k0_t2_loop.trips) : Fin 1 → Nat :=
  let c4096_i32_141 : BitVec 32 := 4096#32
  let c0_i32_46 : BitVec 32 := 0#32
  let c1_i32_48 : BitVec 32 := 1#32
  let arg31 : BitVec 32 := Scf.iv c0_i32_46 c1_i32_48 k0_t2
  let c128_i32 : BitVec 32 := 128#32
  let v193 : BitVec 32 := Scalar.muli arg31 c128_i32
  let v194 : BitVec 32 := Scalar.addi c4096_i32_141 v193
  let c0_i32_142 : BitVec 32 := 0#32
  let v195 : BitVec 32 := Scalar.addi v194 c0_i32_142
  let v196 : Index := Scalar.indexCast v195
  ![v196.toNat]

def k0_chk9 (v202 : IVec S16 32) : Prop :=
  (∀ a x, ((![v202] : Fin 1 → IVec S16 32) a x).toNat < S8192.size a)
theorem k0_idx9_inb : ∀ (v202 : IVec S16 32) (k0_hw9 : k0_chk9 v202), ∀ a x, ((![v202] : Fin 1 → IVec S16 32) a x).toNat < S8192.size a := fun v202 k0_hw9 => k0_hw9
def k0_off12 (k0_t2 : Fin k0_t2_loop.trips) : Fin 1 → Nat :=
  let c4096_i32_141 : BitVec 32 := 4096#32
  let c0_i32_46 : BitVec 32 := 0#32
  let c1_i32_48 : BitVec 32 := 1#32
  let arg31 : BitVec 32 := Scf.iv c0_i32_46 c1_i32_48 k0_t2
  let c128_i32 : BitVec 32 := 128#32
  let v193 : BitVec 32 := Scalar.muli arg31 c128_i32
  let v194 : BitVec 32 := Scalar.addi c4096_i32_141 v193
  let c16_i32 : BitVec 32 := 16#32
  let v204 : BitVec 32 := Scalar.addi v194 c16_i32
  let v205 : Index := Scalar.indexCast v204
  ![v205.toNat]

def k0_chk10 (v211 : IVec S16 32) : Prop :=
  (∀ a x, ((![v211] : Fin 1 → IVec S16 32) a x).toNat < S8192.size a)
theorem k0_idx10_inb : ∀ (v211 : IVec S16 32) (k0_hw10 : k0_chk10 v211), ∀ a x, ((![v211] : Fin 1 → IVec S16 32) a x).toNat < S8192.size a := fun v211 k0_hw10 => k0_hw10
def k0_off13 (k0_t2 : Fin k0_t2_loop.trips) : Fin 1 → Nat :=
  let c4096_i32_141 : BitVec 32 := 4096#32
  let c0_i32_46 : BitVec 32 := 0#32
  let c1_i32_48 : BitVec 32 := 1#32
  let arg31 : BitVec 32 := Scf.iv c0_i32_46 c1_i32_48 k0_t2
  let c128_i32 : BitVec 32 := 128#32
  let v193 : BitVec 32 := Scalar.muli arg31 c128_i32
  let v194 : BitVec 32 := Scalar.addi c4096_i32_141 v193
  let c32_i32_151 : BitVec 32 := 32#32
  let v213 : BitVec 32 := Scalar.addi v194 c32_i32_151
  let v214 : Index := Scalar.indexCast v213
  ![v214.toNat]

def k0_chk11 (v220 : IVec S16 32) : Prop :=
  (∀ a x, ((![v220] : Fin 1 → IVec S16 32) a x).toNat < S8192.size a)
theorem k0_idx11_inb : ∀ (v220 : IVec S16 32) (k0_hw11 : k0_chk11 v220), ∀ a x, ((![v220] : Fin 1 → IVec S16 32) a x).toNat < S8192.size a := fun v220 k0_hw11 => k0_hw11
def k0_off14 (k0_t2 : Fin k0_t2_loop.trips) : Fin 1 → Nat :=
  let c4096_i32_141 : BitVec 32 := 4096#32
  let c0_i32_46 : BitVec 32 := 0#32
  let c1_i32_48 : BitVec 32 := 1#32
  let arg31 : BitVec 32 := Scf.iv c0_i32_46 c1_i32_48 k0_t2
  let c128_i32 : BitVec 32 := 128#32
  let v193 : BitVec 32 := Scalar.muli arg31 c128_i32
  let v194 : BitVec 32 := Scalar.addi c4096_i32_141 v193
  let c48_i32 : BitVec 32 := 48#32
  let v222 : BitVec 32 := Scalar.addi v194 c48_i32
  let v223 : Index := Scalar.indexCast v222
  ![v223.toNat]

def k0_chk12 (v229 : IVec S16 32) : Prop :=
  (∀ a x, ((![v229] : Fin 1 → IVec S16 32) a x).toNat < S8192.size a)
theorem k0_idx12_inb : ∀ (v229 : IVec S16 32) (k0_hw12 : k0_chk12 v229), ∀ a x, ((![v229] : Fin 1 → IVec S16 32) a x).toNat < S8192.size a := fun v229 k0_hw12 => k0_hw12
def k0_off15 (k0_t2 : Fin k0_t2_loop.trips) : Fin 1 → Nat :=
  let c4096_i32_141 : BitVec 32 := 4096#32
  let c0_i32_46 : BitVec 32 := 0#32
  let c1_i32_48 : BitVec 32 := 1#32
  let arg31 : BitVec 32 := Scf.iv c0_i32_46 c1_i32_48 k0_t2
  let c128_i32 : BitVec 32 := 128#32
  let v193 : BitVec 32 := Scalar.muli arg31 c128_i32
  let v194 : BitVec 32 := Scalar.addi c4096_i32_141 v193
  let c64_i32_158 : BitVec 32 := 64#32
  let v231 : BitVec 32 := Scalar.addi v194 c64_i32_158
  let v232 : Index := Scalar.indexCast v231
  ![v232.toNat]

def k0_chk13 (v238 : IVec S16 32) : Prop :=
  (∀ a x, ((![v238] : Fin 1 → IVec S16 32) a x).toNat < S8192.size a)
theorem k0_idx13_inb : ∀ (v238 : IVec S16 32) (k0_hw13 : k0_chk13 v238), ∀ a x, ((![v238] : Fin 1 → IVec S16 32) a x).toNat < S8192.size a := fun v238 k0_hw13 => k0_hw13
def k0_off16 (k0_t2 : Fin k0_t2_loop.trips) : Fin 1 → Nat :=
  let c4096_i32_141 : BitVec 32 := 4096#32
  let c0_i32_46 : BitVec 32 := 0#32
  let c1_i32_48 : BitVec 32 := 1#32
  let arg31 : BitVec 32 := Scf.iv c0_i32_46 c1_i32_48 k0_t2
  let c128_i32 : BitVec 32 := 128#32
  let v193 : BitVec 32 := Scalar.muli arg31 c128_i32
  let v194 : BitVec 32 := Scalar.addi c4096_i32_141 v193
  let c80_i32 : BitVec 32 := 80#32
  let v240 : BitVec 32 := Scalar.addi v194 c80_i32
  let v241 : Index := Scalar.indexCast v240
  ![v241.toNat]

def k0_chk14 (v247 : IVec S16 32) : Prop :=
  (∀ a x, ((![v247] : Fin 1 → IVec S16 32) a x).toNat < S8192.size a)
theorem k0_idx14_inb : ∀ (v247 : IVec S16 32) (k0_hw14 : k0_chk14 v247), ∀ a x, ((![v247] : Fin 1 → IVec S16 32) a x).toNat < S8192.size a := fun v247 k0_hw14 => k0_hw14
def k0_off17 (k0_t2 : Fin k0_t2_loop.trips) : Fin 1 → Nat :=
  let c4096_i32_141 : BitVec 32 := 4096#32
  let c0_i32_46 : BitVec 32 := 0#32
  let c1_i32_48 : BitVec 32 := 1#32
  let arg31 : BitVec 32 := Scf.iv c0_i32_46 c1_i32_48 k0_t2
  let c128_i32 : BitVec 32 := 128#32
  let v193 : BitVec 32 := Scalar.muli arg31 c128_i32
  let v194 : BitVec 32 := Scalar.addi c4096_i32_141 v193
  let c96_i32_166 : BitVec 32 := 96#32
  let v249 : BitVec 32 := Scalar.addi v194 c96_i32_166
  let v250 : Index := Scalar.indexCast v249
  ![v250.toNat]

def k0_chk15 (v256 : IVec S16 32) : Prop :=
  (∀ a x, ((![v256] : Fin 1 → IVec S16 32) a x).toNat < S8192.size a)
theorem k0_idx15_inb : ∀ (v256 : IVec S16 32) (k0_hw15 : k0_chk15 v256), ∀ a x, ((![v256] : Fin 1 → IVec S16 32) a x).toNat < S8192.size a := fun v256 k0_hw15 => k0_hw15
def k0_off18 (k0_t2 : Fin k0_t2_loop.trips) : Fin 1 → Nat :=
  let c4096_i32_141 : BitVec 32 := 4096#32
  let c0_i32_46 : BitVec 32 := 0#32
  let c1_i32_48 : BitVec 32 := 1#32
  let arg31 : BitVec 32 := Scf.iv c0_i32_46 c1_i32_48 k0_t2
  let c128_i32 : BitVec 32 := 128#32
  let v193 : BitVec 32 := Scalar.muli arg31 c128_i32
  let v194 : BitVec 32 := Scalar.addi c4096_i32_141 v193
  let c112_i32 : BitVec 32 := 112#32
  let v258 : BitVec 32 := Scalar.addi v194 c112_i32
  let v259 : Index := Scalar.indexCast v258
  ![v259.toNat]

def k0_chk16 (v265 : IVec S16 32) : Prop :=
  (∀ a x, ((![v265] : Fin 1 → IVec S16 32) a x).toNat < S8192.size a)
theorem k0_idx16_inb : ∀ (v265 : IVec S16 32) (k0_hw16 : k0_chk16 v265), ∀ a x, ((![v265] : Fin 1 → IVec S16 32) a x).toNat < S8192.size a := fun v265 k0_hw16 => k0_hw16
@[reducible] def k0_t3_loop : Scf.Loop 32 :=
  let c0_i32_58 : BitVec 32 := 0#32
  let c32_i32_59 : BitVec 32 := 32#32
  let v95 : BitVec 32 := Scalar.addi c0_i32_58 c32_i32_59
  let c1_i32_60 : BitVec 32 := 1#32
  ⟨c0_i32_58, v95, c1_i32_60⟩
def k0_off19 (k0_t3 : Fin k0_t3_loop.trips) : Fin 1 → Nat :=
  let c8192_i32_141 : BitVec 32 := 8192#32
  let c0_i32_58 : BitVec 32 := 0#32
  let c1_i32_60 : BitVec 32 := 1#32
  let arg31 : BitVec 32 := Scf.iv c0_i32_58 c1_i32_60 k0_t3
  let c128_i32 : BitVec 32 := 128#32
  let v193 : BitVec 32 := Scalar.muli arg31 c128_i32
  let v194 : BitVec 32 := Scalar.addi c8192_i32_141 v193
  let c0_i32_142 : BitVec 32 := 0#32
  let v195 : BitVec 32 := Scalar.addi v194 c0_i32_142
  let v196 : Index := Scalar.indexCast v195
  ![v196.toNat]

def k0_chk17 (v202 : IVec S16 32) : Prop :=
  (∀ a x, ((![v202] : Fin 1 → IVec S16 32) a x).toNat < S8192.size a)
theorem k0_idx17_inb : ∀ (v202 : IVec S16 32) (k0_hw17 : k0_chk17 v202), ∀ a x, ((![v202] : Fin 1 → IVec S16 32) a x).toNat < S8192.size a := fun v202 k0_hw17 => k0_hw17
def k0_off20 (k0_t3 : Fin k0_t3_loop.trips) : Fin 1 → Nat :=
  let c8192_i32_141 : BitVec 32 := 8192#32
  let c0_i32_58 : BitVec 32 := 0#32
  let c1_i32_60 : BitVec 32 := 1#32
  let arg31 : BitVec 32 := Scf.iv c0_i32_58 c1_i32_60 k0_t3
  let c128_i32 : BitVec 32 := 128#32
  let v193 : BitVec 32 := Scalar.muli arg31 c128_i32
  let v194 : BitVec 32 := Scalar.addi c8192_i32_141 v193
  let c16_i32 : BitVec 32 := 16#32
  let v204 : BitVec 32 := Scalar.addi v194 c16_i32
  let v205 : Index := Scalar.indexCast v204
  ![v205.toNat]

def k0_chk18 (v211 : IVec S16 32) : Prop :=
  (∀ a x, ((![v211] : Fin 1 → IVec S16 32) a x).toNat < S8192.size a)
theorem k0_idx18_inb : ∀ (v211 : IVec S16 32) (k0_hw18 : k0_chk18 v211), ∀ a x, ((![v211] : Fin 1 → IVec S16 32) a x).toNat < S8192.size a := fun v211 k0_hw18 => k0_hw18
def k0_off21 (k0_t3 : Fin k0_t3_loop.trips) : Fin 1 → Nat :=
  let c8192_i32_141 : BitVec 32 := 8192#32
  let c0_i32_58 : BitVec 32 := 0#32
  let c1_i32_60 : BitVec 32 := 1#32
  let arg31 : BitVec 32 := Scf.iv c0_i32_58 c1_i32_60 k0_t3
  let c128_i32 : BitVec 32 := 128#32
  let v193 : BitVec 32 := Scalar.muli arg31 c128_i32
  let v194 : BitVec 32 := Scalar.addi c8192_i32_141 v193
  let c32_i32_151 : BitVec 32 := 32#32
  let v213 : BitVec 32 := Scalar.addi v194 c32_i32_151
  let v214 : Index := Scalar.indexCast v213
  ![v214.toNat]

def k0_chk19 (v220 : IVec S16 32) : Prop :=
  (∀ a x, ((![v220] : Fin 1 → IVec S16 32) a x).toNat < S8192.size a)
theorem k0_idx19_inb : ∀ (v220 : IVec S16 32) (k0_hw19 : k0_chk19 v220), ∀ a x, ((![v220] : Fin 1 → IVec S16 32) a x).toNat < S8192.size a := fun v220 k0_hw19 => k0_hw19
def k0_off22 (k0_t3 : Fin k0_t3_loop.trips) : Fin 1 → Nat :=
  let c8192_i32_141 : BitVec 32 := 8192#32
  let c0_i32_58 : BitVec 32 := 0#32
  let c1_i32_60 : BitVec 32 := 1#32
  let arg31 : BitVec 32 := Scf.iv c0_i32_58 c1_i32_60 k0_t3
  let c128_i32 : BitVec 32 := 128#32
  let v193 : BitVec 32 := Scalar.muli arg31 c128_i32
  let v194 : BitVec 32 := Scalar.addi c8192_i32_141 v193
  let c48_i32 : BitVec 32 := 48#32
  let v222 : BitVec 32 := Scalar.addi v194 c48_i32
  let v223 : Index := Scalar.indexCast v222
  ![v223.toNat]

def k0_chk20 (v229 : IVec S16 32) : Prop :=
  (∀ a x, ((![v229] : Fin 1 → IVec S16 32) a x).toNat < S8192.size a)
theorem k0_idx20_inb : ∀ (v229 : IVec S16 32) (k0_hw20 : k0_chk20 v229), ∀ a x, ((![v229] : Fin 1 → IVec S16 32) a x).toNat < S8192.size a := fun v229 k0_hw20 => k0_hw20
def k0_off23 (k0_t3 : Fin k0_t3_loop.trips) : Fin 1 → Nat :=
  let c8192_i32_141 : BitVec 32 := 8192#32
  let c0_i32_58 : BitVec 32 := 0#32
  let c1_i32_60 : BitVec 32 := 1#32
  let arg31 : BitVec 32 := Scf.iv c0_i32_58 c1_i32_60 k0_t3
  let c128_i32 : BitVec 32 := 128#32
  let v193 : BitVec 32 := Scalar.muli arg31 c128_i32
  let v194 : BitVec 32 := Scalar.addi c8192_i32_141 v193
  let c64_i32_158 : BitVec 32 := 64#32
  let v231 : BitVec 32 := Scalar.addi v194 c64_i32_158
  let v232 : Index := Scalar.indexCast v231
  ![v232.toNat]

def k0_chk21 (v238 : IVec S16 32) : Prop :=
  (∀ a x, ((![v238] : Fin 1 → IVec S16 32) a x).toNat < S8192.size a)
theorem k0_idx21_inb : ∀ (v238 : IVec S16 32) (k0_hw21 : k0_chk21 v238), ∀ a x, ((![v238] : Fin 1 → IVec S16 32) a x).toNat < S8192.size a := fun v238 k0_hw21 => k0_hw21
def k0_off24 (k0_t3 : Fin k0_t3_loop.trips) : Fin 1 → Nat :=
  let c8192_i32_141 : BitVec 32 := 8192#32
  let c0_i32_58 : BitVec 32 := 0#32
  let c1_i32_60 : BitVec 32 := 1#32
  let arg31 : BitVec 32 := Scf.iv c0_i32_58 c1_i32_60 k0_t3
  let c128_i32 : BitVec 32 := 128#32
  let v193 : BitVec 32 := Scalar.muli arg31 c128_i32
  let v194 : BitVec 32 := Scalar.addi c8192_i32_141 v193
  let c80_i32 : BitVec 32 := 80#32
  let v240 : BitVec 32 := Scalar.addi v194 c80_i32
  let v241 : Index := Scalar.indexCast v240
  ![v241.toNat]

def k0_chk22 (v247 : IVec S16 32) : Prop :=
  (∀ a x, ((![v247] : Fin 1 → IVec S16 32) a x).toNat < S8192.size a)
theorem k0_idx22_inb : ∀ (v247 : IVec S16 32) (k0_hw22 : k0_chk22 v247), ∀ a x, ((![v247] : Fin 1 → IVec S16 32) a x).toNat < S8192.size a := fun v247 k0_hw22 => k0_hw22
def k0_off25 (k0_t3 : Fin k0_t3_loop.trips) : Fin 1 → Nat :=
  let c8192_i32_141 : BitVec 32 := 8192#32
  let c0_i32_58 : BitVec 32 := 0#32
  let c1_i32_60 : BitVec 32 := 1#32
  let arg31 : BitVec 32 := Scf.iv c0_i32_58 c1_i32_60 k0_t3
  let c128_i32 : BitVec 32 := 128#32
  let v193 : BitVec 32 := Scalar.muli arg31 c128_i32
  let v194 : BitVec 32 := Scalar.addi c8192_i32_141 v193
  let c96_i32_166 : BitVec 32 := 96#32
  let v249 : BitVec 32 := Scalar.addi v194 c96_i32_166
  let v250 : Index := Scalar.indexCast v249
  ![v250.toNat]

def k0_chk23 (v256 : IVec S16 32) : Prop :=
  (∀ a x, ((![v256] : Fin 1 → IVec S16 32) a x).toNat < S8192.size a)
theorem k0_idx23_inb : ∀ (v256 : IVec S16 32) (k0_hw23 : k0_chk23 v256), ∀ a x, ((![v256] : Fin 1 → IVec S16 32) a x).toNat < S8192.size a := fun v256 k0_hw23 => k0_hw23
def k0_off26 (k0_t3 : Fin k0_t3_loop.trips) : Fin 1 → Nat :=
  let c8192_i32_141 : BitVec 32 := 8192#32
  let c0_i32_58 : BitVec 32 := 0#32
  let c1_i32_60 : BitVec 32 := 1#32
  let arg31 : BitVec 32 := Scf.iv c0_i32_58 c1_i32_60 k0_t3
  let c128_i32 : BitVec 32 := 128#32
  let v193 : BitVec 32 := Scalar.muli arg31 c128_i32
  let v194 : BitVec 32 := Scalar.addi c8192_i32_141 v193
  let c112_i32 : BitVec 32 := 112#32
  let v258 : BitVec 32 := Scalar.addi v194 c112_i32
  let v259 : Index := Scalar.indexCast v258
  ![v259.toNat]

def k0_chk24 (v265 : IVec S16 32) : Prop :=
  (∀ a x, ((![v265] : Fin 1 → IVec S16 32) a x).toNat < S8192.size a)
theorem k0_idx24_inb : ∀ (v265 : IVec S16 32) (k0_hw24 : k0_chk24 v265), ∀ a x, ((![v265] : Fin 1 → IVec S16 32) a x).toNat < S8192.size a := fun v265 k0_hw24 => k0_hw24
@[reducible] def k0_t4_loop : Scf.Loop 32 :=
  let c0_i32_70 : BitVec 32 := 0#32
  let c32_i32_71 : BitVec 32 := 32#32
  let v107 : BitVec 32 := Scalar.addi c0_i32_70 c32_i32_71
  let c1_i32_72 : BitVec 32 := 1#32
  ⟨c0_i32_70, v107, c1_i32_72⟩
def k0_off27 (k0_t4 : Fin k0_t4_loop.trips) : Fin 1 → Nat :=
  let c12288_i32_141 : BitVec 32 := 12288#32
  let c0_i32_70 : BitVec 32 := 0#32
  let c1_i32_72 : BitVec 32 := 1#32
  let arg31 : BitVec 32 := Scf.iv c0_i32_70 c1_i32_72 k0_t4
  let c128_i32 : BitVec 32 := 128#32
  let v193 : BitVec 32 := Scalar.muli arg31 c128_i32
  let v194 : BitVec 32 := Scalar.addi c12288_i32_141 v193
  let c0_i32_142 : BitVec 32 := 0#32
  let v195 : BitVec 32 := Scalar.addi v194 c0_i32_142
  let v196 : Index := Scalar.indexCast v195
  ![v196.toNat]

def k0_chk25 (v202 : IVec S16 32) : Prop :=
  (∀ a x, ((![v202] : Fin 1 → IVec S16 32) a x).toNat < S8192.size a)
theorem k0_idx25_inb : ∀ (v202 : IVec S16 32) (k0_hw25 : k0_chk25 v202), ∀ a x, ((![v202] : Fin 1 → IVec S16 32) a x).toNat < S8192.size a := fun v202 k0_hw25 => k0_hw25
def k0_off28 (k0_t4 : Fin k0_t4_loop.trips) : Fin 1 → Nat :=
  let c12288_i32_141 : BitVec 32 := 12288#32
  let c0_i32_70 : BitVec 32 := 0#32
  let c1_i32_72 : BitVec 32 := 1#32
  let arg31 : BitVec 32 := Scf.iv c0_i32_70 c1_i32_72 k0_t4
  let c128_i32 : BitVec 32 := 128#32
  let v193 : BitVec 32 := Scalar.muli arg31 c128_i32
  let v194 : BitVec 32 := Scalar.addi c12288_i32_141 v193
  let c16_i32 : BitVec 32 := 16#32
  let v204 : BitVec 32 := Scalar.addi v194 c16_i32
  let v205 : Index := Scalar.indexCast v204
  ![v205.toNat]

def k0_chk26 (v211 : IVec S16 32) : Prop :=
  (∀ a x, ((![v211] : Fin 1 → IVec S16 32) a x).toNat < S8192.size a)
theorem k0_idx26_inb : ∀ (v211 : IVec S16 32) (k0_hw26 : k0_chk26 v211), ∀ a x, ((![v211] : Fin 1 → IVec S16 32) a x).toNat < S8192.size a := fun v211 k0_hw26 => k0_hw26
def k0_off29 (k0_t4 : Fin k0_t4_loop.trips) : Fin 1 → Nat :=
  let c12288_i32_141 : BitVec 32 := 12288#32
  let c0_i32_70 : BitVec 32 := 0#32
  let c1_i32_72 : BitVec 32 := 1#32
  let arg31 : BitVec 32 := Scf.iv c0_i32_70 c1_i32_72 k0_t4
  let c128_i32 : BitVec 32 := 128#32
  let v193 : BitVec 32 := Scalar.muli arg31 c128_i32
  let v194 : BitVec 32 := Scalar.addi c12288_i32_141 v193
  let c32_i32_151 : BitVec 32 := 32#32
  let v213 : BitVec 32 := Scalar.addi v194 c32_i32_151
  let v214 : Index := Scalar.indexCast v213
  ![v214.toNat]

def k0_chk27 (v220 : IVec S16 32) : Prop :=
  (∀ a x, ((![v220] : Fin 1 → IVec S16 32) a x).toNat < S8192.size a)
theorem k0_idx27_inb : ∀ (v220 : IVec S16 32) (k0_hw27 : k0_chk27 v220), ∀ a x, ((![v220] : Fin 1 → IVec S16 32) a x).toNat < S8192.size a := fun v220 k0_hw27 => k0_hw27
def k0_off30 (k0_t4 : Fin k0_t4_loop.trips) : Fin 1 → Nat :=
  let c12288_i32_141 : BitVec 32 := 12288#32
  let c0_i32_70 : BitVec 32 := 0#32
  let c1_i32_72 : BitVec 32 := 1#32
  let arg31 : BitVec 32 := Scf.iv c0_i32_70 c1_i32_72 k0_t4
  let c128_i32 : BitVec 32 := 128#32
  let v193 : BitVec 32 := Scalar.muli arg31 c128_i32
  let v194 : BitVec 32 := Scalar.addi c12288_i32_141 v193
  let c48_i32 : BitVec 32 := 48#32
  let v222 : BitVec 32 := Scalar.addi v194 c48_i32
  let v223 : Index := Scalar.indexCast v222
  ![v223.toNat]

def k0_chk28 (v229 : IVec S16 32) : Prop :=
  (∀ a x, ((![v229] : Fin 1 → IVec S16 32) a x).toNat < S8192.size a)
theorem k0_idx28_inb : ∀ (v229 : IVec S16 32) (k0_hw28 : k0_chk28 v229), ∀ a x, ((![v229] : Fin 1 → IVec S16 32) a x).toNat < S8192.size a := fun v229 k0_hw28 => k0_hw28
def k0_off31 (k0_t4 : Fin k0_t4_loop.trips) : Fin 1 → Nat :=
  let c12288_i32_141 : BitVec 32 := 12288#32
  let c0_i32_70 : BitVec 32 := 0#32
  let c1_i32_72 : BitVec 32 := 1#32
  let arg31 : BitVec 32 := Scf.iv c0_i32_70 c1_i32_72 k0_t4
  let c128_i32 : BitVec 32 := 128#32
  let v193 : BitVec 32 := Scalar.muli arg31 c128_i32
  let v194 : BitVec 32 := Scalar.addi c12288_i32_141 v193
  let c64_i32_158 : BitVec 32 := 64#32
  let v231 : BitVec 32 := Scalar.addi v194 c64_i32_158
  let v232 : Index := Scalar.indexCast v231
  ![v232.toNat]

def k0_chk29 (v238 : IVec S16 32) : Prop :=
  (∀ a x, ((![v238] : Fin 1 → IVec S16 32) a x).toNat < S8192.size a)
theorem k0_idx29_inb : ∀ (v238 : IVec S16 32) (k0_hw29 : k0_chk29 v238), ∀ a x, ((![v238] : Fin 1 → IVec S16 32) a x).toNat < S8192.size a := fun v238 k0_hw29 => k0_hw29
def k0_off32 (k0_t4 : Fin k0_t4_loop.trips) : Fin 1 → Nat :=
  let c12288_i32_141 : BitVec 32 := 12288#32
  let c0_i32_70 : BitVec 32 := 0#32
  let c1_i32_72 : BitVec 32 := 1#32
  let arg31 : BitVec 32 := Scf.iv c0_i32_70 c1_i32_72 k0_t4
  let c128_i32 : BitVec 32 := 128#32
  let v193 : BitVec 32 := Scalar.muli arg31 c128_i32
  let v194 : BitVec 32 := Scalar.addi c12288_i32_141 v193
  let c80_i32 : BitVec 32 := 80#32
  let v240 : BitVec 32 := Scalar.addi v194 c80_i32
  let v241 : Index := Scalar.indexCast v240
  ![v241.toNat]

def k0_chk30 (v247 : IVec S16 32) : Prop :=
  (∀ a x, ((![v247] : Fin 1 → IVec S16 32) a x).toNat < S8192.size a)
theorem k0_idx30_inb : ∀ (v247 : IVec S16 32) (k0_hw30 : k0_chk30 v247), ∀ a x, ((![v247] : Fin 1 → IVec S16 32) a x).toNat < S8192.size a := fun v247 k0_hw30 => k0_hw30
def k0_off33 (k0_t4 : Fin k0_t4_loop.trips) : Fin 1 → Nat :=
  let c12288_i32_141 : BitVec 32 := 12288#32
  let c0_i32_70 : BitVec 32 := 0#32
  let c1_i32_72 : BitVec 32 := 1#32
  let arg31 : BitVec 32 := Scf.iv c0_i32_70 c1_i32_72 k0_t4
  let c128_i32 : BitVec 32 := 128#32
  let v193 : BitVec 32 := Scalar.muli arg31 c128_i32
  let v194 : BitVec 32 := Scalar.addi c12288_i32_141 v193
  let c96_i32_166 : BitVec 32 := 96#32
  let v249 : BitVec 32 := Scalar.addi v194 c96_i32_166
  let v250 : Index := Scalar.indexCast v249
  ![v250.toNat]

def k0_chk31 (v256 : IVec S16 32) : Prop :=
  (∀ a x, ((![v256] : Fin 1 → IVec S16 32) a x).toNat < S8192.size a)
theorem k0_idx31_inb : ∀ (v256 : IVec S16 32) (k0_hw31 : k0_chk31 v256), ∀ a x, ((![v256] : Fin 1 → IVec S16 32) a x).toNat < S8192.size a := fun v256 k0_hw31 => k0_hw31
def k0_off34 (k0_t4 : Fin k0_t4_loop.trips) : Fin 1 → Nat :=
  let c12288_i32_141 : BitVec 32 := 12288#32
  let c0_i32_70 : BitVec 32 := 0#32
  let c1_i32_72 : BitVec 32 := 1#32
  let arg31 : BitVec 32 := Scf.iv c0_i32_70 c1_i32_72 k0_t4
  let c128_i32 : BitVec 32 := 128#32
  let v193 : BitVec 32 := Scalar.muli arg31 c128_i32
  let v194 : BitVec 32 := Scalar.addi c12288_i32_141 v193
  let c112_i32 : BitVec 32 := 112#32
  let v258 : BitVec 32 := Scalar.addi v194 c112_i32
  let v259 : Index := Scalar.indexCast v258
  ![v259.toNat]

def k0_chk32 (v265 : IVec S16 32) : Prop :=
  (∀ a x, ((![v265] : Fin 1 → IVec S16 32) a x).toNat < S8192.size a)
theorem k0_idx32_inb : ∀ (v265 : IVec S16 32) (k0_hw32 : k0_chk32 v265), ∀ a x, ((![v265] : Fin 1 → IVec S16 32) a x).toNat < S8192.size a := fun v265 k0_hw32 => k0_hw32
@[reducible] def k0_t5_loop : Scf.Loop 32 :=
  let c0_i32_82 : BitVec 32 := 0#32
  let c32_i32_83 : BitVec 32 := 32#32
  let v119 : BitVec 32 := Scalar.addi c0_i32_82 c32_i32_83
  let c1_i32_84 : BitVec 32 := 1#32
  ⟨c0_i32_82, v119, c1_i32_84⟩
def k0_off35 (k0_t5 : Fin k0_t5_loop.trips) : Fin 1 → Nat :=
  let c16384_i32_141 : BitVec 32 := 16384#32
  let c0_i32_82 : BitVec 32 := 0#32
  let c1_i32_84 : BitVec 32 := 1#32
  let arg31 : BitVec 32 := Scf.iv c0_i32_82 c1_i32_84 k0_t5
  let c128_i32 : BitVec 32 := 128#32
  let v193 : BitVec 32 := Scalar.muli arg31 c128_i32
  let v194 : BitVec 32 := Scalar.addi c16384_i32_141 v193
  let c0_i32_142 : BitVec 32 := 0#32
  let v195 : BitVec 32 := Scalar.addi v194 c0_i32_142
  let v196 : Index := Scalar.indexCast v195
  ![v196.toNat]

def k0_chk33 (v202 : IVec S16 32) : Prop :=
  (∀ a x, ((![v202] : Fin 1 → IVec S16 32) a x).toNat < S8192.size a)
theorem k0_idx33_inb : ∀ (v202 : IVec S16 32) (k0_hw33 : k0_chk33 v202), ∀ a x, ((![v202] : Fin 1 → IVec S16 32) a x).toNat < S8192.size a := fun v202 k0_hw33 => k0_hw33
def k0_off36 (k0_t5 : Fin k0_t5_loop.trips) : Fin 1 → Nat :=
  let c16384_i32_141 : BitVec 32 := 16384#32
  let c0_i32_82 : BitVec 32 := 0#32
  let c1_i32_84 : BitVec 32 := 1#32
  let arg31 : BitVec 32 := Scf.iv c0_i32_82 c1_i32_84 k0_t5
  let c128_i32 : BitVec 32 := 128#32
  let v193 : BitVec 32 := Scalar.muli arg31 c128_i32
  let v194 : BitVec 32 := Scalar.addi c16384_i32_141 v193
  let c16_i32 : BitVec 32 := 16#32
  let v204 : BitVec 32 := Scalar.addi v194 c16_i32
  let v205 : Index := Scalar.indexCast v204
  ![v205.toNat]

def k0_chk34 (v211 : IVec S16 32) : Prop :=
  (∀ a x, ((![v211] : Fin 1 → IVec S16 32) a x).toNat < S8192.size a)
theorem k0_idx34_inb : ∀ (v211 : IVec S16 32) (k0_hw34 : k0_chk34 v211), ∀ a x, ((![v211] : Fin 1 → IVec S16 32) a x).toNat < S8192.size a := fun v211 k0_hw34 => k0_hw34
def k0_off37 (k0_t5 : Fin k0_t5_loop.trips) : Fin 1 → Nat :=
  let c16384_i32_141 : BitVec 32 := 16384#32
  let c0_i32_82 : BitVec 32 := 0#32
  let c1_i32_84 : BitVec 32 := 1#32
  let arg31 : BitVec 32 := Scf.iv c0_i32_82 c1_i32_84 k0_t5
  let c128_i32 : BitVec 32 := 128#32
  let v193 : BitVec 32 := Scalar.muli arg31 c128_i32
  let v194 : BitVec 32 := Scalar.addi c16384_i32_141 v193
  let c32_i32_151 : BitVec 32 := 32#32
  let v213 : BitVec 32 := Scalar.addi v194 c32_i32_151
  let v214 : Index := Scalar.indexCast v213
  ![v214.toNat]

def k0_chk35 (v220 : IVec S16 32) : Prop :=
  (∀ a x, ((![v220] : Fin 1 → IVec S16 32) a x).toNat < S8192.size a)
theorem k0_idx35_inb : ∀ (v220 : IVec S16 32) (k0_hw35 : k0_chk35 v220), ∀ a x, ((![v220] : Fin 1 → IVec S16 32) a x).toNat < S8192.size a := fun v220 k0_hw35 => k0_hw35
def k0_off38 (k0_t5 : Fin k0_t5_loop.trips) : Fin 1 → Nat :=
  let c16384_i32_141 : BitVec 32 := 16384#32
  let c0_i32_82 : BitVec 32 := 0#32
  let c1_i32_84 : BitVec 32 := 1#32
  let arg31 : BitVec 32 := Scf.iv c0_i32_82 c1_i32_84 k0_t5
  let c128_i32 : BitVec 32 := 128#32
  let v193 : BitVec 32 := Scalar.muli arg31 c128_i32
  let v194 : BitVec 32 := Scalar.addi c16384_i32_141 v193
  let c48_i32 : BitVec 32 := 48#32
  let v222 : BitVec 32 := Scalar.addi v194 c48_i32
  let v223 : Index := Scalar.indexCast v222
  ![v223.toNat]

def k0_chk36 (v229 : IVec S16 32) : Prop :=
  (∀ a x, ((![v229] : Fin 1 → IVec S16 32) a x).toNat < S8192.size a)
theorem k0_idx36_inb : ∀ (v229 : IVec S16 32) (k0_hw36 : k0_chk36 v229), ∀ a x, ((![v229] : Fin 1 → IVec S16 32) a x).toNat < S8192.size a := fun v229 k0_hw36 => k0_hw36
def k0_off39 (k0_t5 : Fin k0_t5_loop.trips) : Fin 1 → Nat :=
  let c16384_i32_141 : BitVec 32 := 16384#32
  let c0_i32_82 : BitVec 32 := 0#32
  let c1_i32_84 : BitVec 32 := 1#32
  let arg31 : BitVec 32 := Scf.iv c0_i32_82 c1_i32_84 k0_t5
  let c128_i32 : BitVec 32 := 128#32
  let v193 : BitVec 32 := Scalar.muli arg31 c128_i32
  let v194 : BitVec 32 := Scalar.addi c16384_i32_141 v193
  let c64_i32_158 : BitVec 32 := 64#32
  let v231 : BitVec 32 := Scalar.addi v194 c64_i32_158
  let v232 : Index := Scalar.indexCast v231
  ![v232.toNat]

def k0_chk37 (v238 : IVec S16 32) : Prop :=
  (∀ a x, ((![v238] : Fin 1 → IVec S16 32) a x).toNat < S8192.size a)
theorem k0_idx37_inb : ∀ (v238 : IVec S16 32) (k0_hw37 : k0_chk37 v238), ∀ a x, ((![v238] : Fin 1 → IVec S16 32) a x).toNat < S8192.size a := fun v238 k0_hw37 => k0_hw37
def k0_off40 (k0_t5 : Fin k0_t5_loop.trips) : Fin 1 → Nat :=
  let c16384_i32_141 : BitVec 32 := 16384#32
  let c0_i32_82 : BitVec 32 := 0#32
  let c1_i32_84 : BitVec 32 := 1#32
  let arg31 : BitVec 32 := Scf.iv c0_i32_82 c1_i32_84 k0_t5
  let c128_i32 : BitVec 32 := 128#32
  let v193 : BitVec 32 := Scalar.muli arg31 c128_i32
  let v194 : BitVec 32 := Scalar.addi c16384_i32_141 v193
  let c80_i32 : BitVec 32 := 80#32
  let v240 : BitVec 32 := Scalar.addi v194 c80_i32
  let v241 : Index := Scalar.indexCast v240
  ![v241.toNat]

def k0_chk38 (v247 : IVec S16 32) : Prop :=
  (∀ a x, ((![v247] : Fin 1 → IVec S16 32) a x).toNat < S8192.size a)
theorem k0_idx38_inb : ∀ (v247 : IVec S16 32) (k0_hw38 : k0_chk38 v247), ∀ a x, ((![v247] : Fin 1 → IVec S16 32) a x).toNat < S8192.size a := fun v247 k0_hw38 => k0_hw38
def k0_off41 (k0_t5 : Fin k0_t5_loop.trips) : Fin 1 → Nat :=
  let c16384_i32_141 : BitVec 32 := 16384#32
  let c0_i32_82 : BitVec 32 := 0#32
  let c1_i32_84 : BitVec 32 := 1#32
  let arg31 : BitVec 32 := Scf.iv c0_i32_82 c1_i32_84 k0_t5
  let c128_i32 : BitVec 32 := 128#32
  let v193 : BitVec 32 := Scalar.muli arg31 c128_i32
  let v194 : BitVec 32 := Scalar.addi c16384_i32_141 v193
  let c96_i32_166 : BitVec 32 := 96#32
  let v249 : BitVec 32 := Scalar.addi v194 c96_i32_166
  let v250 : Index := Scalar.indexCast v249
  ![v250.toNat]

def k0_chk39 (v256 : IVec S16 32) : Prop :=
  (∀ a x, ((![v256] : Fin 1 → IVec S16 32) a x).toNat < S8192.size a)
theorem k0_idx39_inb : ∀ (v256 : IVec S16 32) (k0_hw39 : k0_chk39 v256), ∀ a x, ((![v256] : Fin 1 → IVec S16 32) a x).toNat < S8192.size a := fun v256 k0_hw39 => k0_hw39
def k0_off42 (k0_t5 : Fin k0_t5_loop.trips) : Fin 1 → Nat :=
  let c16384_i32_141 : BitVec 32 := 16384#32
  let c0_i32_82 : BitVec 32 := 0#32
  let c1_i32_84 : BitVec 32 := 1#32
  let arg31 : BitVec 32 := Scf.iv c0_i32_82 c1_i32_84 k0_t5
  let c128_i32 : BitVec 32 := 128#32
  let v193 : BitVec 32 := Scalar.muli arg31 c128_i32
  let v194 : BitVec 32 := Scalar.addi c16384_i32_141 v193
  let c112_i32 : BitVec 32 := 112#32
  let v258 : BitVec 32 := Scalar.addi v194 c112_i32
  let v259 : Index := Scalar.indexCast v258
  ![v259.toNat]

def k0_chk40 (v265 : IVec S16 32) : Prop :=
  (∀ a x, ((![v265] : Fin 1 → IVec S16 32) a x).toNat < S8192.size a)
theorem k0_idx40_inb : ∀ (v265 : IVec S16 32) (k0_hw40 : k0_chk40 v265), ∀ a x, ((![v265] : Fin 1 → IVec S16 32) a x).toNat < S8192.size a := fun v265 k0_hw40 => k0_hw40
@[reducible] def k0_t6_loop : Scf.Loop 32 :=
  let c0_i32_94 : BitVec 32 := 0#32
  let c32_i32_95 : BitVec 32 := 32#32
  let v131 : BitVec 32 := Scalar.addi c0_i32_94 c32_i32_95
  let c1_i32_96 : BitVec 32 := 1#32
  ⟨c0_i32_94, v131, c1_i32_96⟩
def k0_off43 (k0_t6 : Fin k0_t6_loop.trips) : Fin 1 → Nat :=
  let c20480_i32_141 : BitVec 32 := 20480#32
  let c0_i32_94 : BitVec 32 := 0#32
  let c1_i32_96 : BitVec 32 := 1#32
  let arg31 : BitVec 32 := Scf.iv c0_i32_94 c1_i32_96 k0_t6
  let c128_i32 : BitVec 32 := 128#32
  let v193 : BitVec 32 := Scalar.muli arg31 c128_i32
  let v194 : BitVec 32 := Scalar.addi c20480_i32_141 v193
  let c0_i32_142 : BitVec 32 := 0#32
  let v195 : BitVec 32 := Scalar.addi v194 c0_i32_142
  let v196 : Index := Scalar.indexCast v195
  ![v196.toNat]

def k0_chk41 (v202 : IVec S16 32) : Prop :=
  (∀ a x, ((![v202] : Fin 1 → IVec S16 32) a x).toNat < S8192.size a)
theorem k0_idx41_inb : ∀ (v202 : IVec S16 32) (k0_hw41 : k0_chk41 v202), ∀ a x, ((![v202] : Fin 1 → IVec S16 32) a x).toNat < S8192.size a := fun v202 k0_hw41 => k0_hw41
def k0_off44 (k0_t6 : Fin k0_t6_loop.trips) : Fin 1 → Nat :=
  let c20480_i32_141 : BitVec 32 := 20480#32
  let c0_i32_94 : BitVec 32 := 0#32
  let c1_i32_96 : BitVec 32 := 1#32
  let arg31 : BitVec 32 := Scf.iv c0_i32_94 c1_i32_96 k0_t6
  let c128_i32 : BitVec 32 := 128#32
  let v193 : BitVec 32 := Scalar.muli arg31 c128_i32
  let v194 : BitVec 32 := Scalar.addi c20480_i32_141 v193
  let c16_i32 : BitVec 32 := 16#32
  let v204 : BitVec 32 := Scalar.addi v194 c16_i32
  let v205 : Index := Scalar.indexCast v204
  ![v205.toNat]

def k0_chk42 (v211 : IVec S16 32) : Prop :=
  (∀ a x, ((![v211] : Fin 1 → IVec S16 32) a x).toNat < S8192.size a)
theorem k0_idx42_inb : ∀ (v211 : IVec S16 32) (k0_hw42 : k0_chk42 v211), ∀ a x, ((![v211] : Fin 1 → IVec S16 32) a x).toNat < S8192.size a := fun v211 k0_hw42 => k0_hw42
def k0_off45 (k0_t6 : Fin k0_t6_loop.trips) : Fin 1 → Nat :=
  let c20480_i32_141 : BitVec 32 := 20480#32
  let c0_i32_94 : BitVec 32 := 0#32
  let c1_i32_96 : BitVec 32 := 1#32
  let arg31 : BitVec 32 := Scf.iv c0_i32_94 c1_i32_96 k0_t6
  let c128_i32 : BitVec 32 := 128#32
  let v193 : BitVec 32 := Scalar.muli arg31 c128_i32
  let v194 : BitVec 32 := Scalar.addi c20480_i32_141 v193
  let c32_i32_151 : BitVec 32 := 32#32
  let v213 : BitVec 32 := Scalar.addi v194 c32_i32_151
  let v214 : Index := Scalar.indexCast v213
  ![v214.toNat]

def k0_chk43 (v220 : IVec S16 32) : Prop :=
  (∀ a x, ((![v220] : Fin 1 → IVec S16 32) a x).toNat < S8192.size a)
theorem k0_idx43_inb : ∀ (v220 : IVec S16 32) (k0_hw43 : k0_chk43 v220), ∀ a x, ((![v220] : Fin 1 → IVec S16 32) a x).toNat < S8192.size a := fun v220 k0_hw43 => k0_hw43
def k0_off46 (k0_t6 : Fin k0_t6_loop.trips) : Fin 1 → Nat :=
  let c20480_i32_141 : BitVec 32 := 20480#32
  let c0_i32_94 : BitVec 32 := 0#32
  let c1_i32_96 : BitVec 32 := 1#32
  let arg31 : BitVec 32 := Scf.iv c0_i32_94 c1_i32_96 k0_t6
  let c128_i32 : BitVec 32 := 128#32
  let v193 : BitVec 32 := Scalar.muli arg31 c128_i32
  let v194 : BitVec 32 := Scalar.addi c20480_i32_141 v193
  let c48_i32 : BitVec 32 := 48#32
  let v222 : BitVec 32 := Scalar.addi v194 c48_i32
  let v223 : Index := Scalar.indexCast v222
  ![v223.toNat]

def k0_chk44 (v229 : IVec S16 32) : Prop :=
  (∀ a x, ((![v229] : Fin 1 → IVec S16 32) a x).toNat < S8192.size a)
theorem k0_idx44_inb : ∀ (v229 : IVec S16 32) (k0_hw44 : k0_chk44 v229), ∀ a x, ((![v229] : Fin 1 → IVec S16 32) a x).toNat < S8192.size a := fun v229 k0_hw44 => k0_hw44
def k0_off47 (k0_t6 : Fin k0_t6_loop.trips) : Fin 1 → Nat :=
  let c20480_i32_141 : BitVec 32 := 20480#32
  let c0_i32_94 : BitVec 32 := 0#32
  let c1_i32_96 : BitVec 32 := 1#32
  let arg31 : BitVec 32 := Scf.iv c0_i32_94 c1_i32_96 k0_t6
  let c128_i32 : BitVec 32 := 128#32
  let v193 : BitVec 32 := Scalar.muli arg31 c128_i32
  let v194 : BitVec 32 := Scalar.addi c20480_i32_141 v193
  let c64_i32_158 : BitVec 32 := 64#32
  let v231 : BitVec 32 := Scalar.addi v194 c64_i32_158
  let v232 : Index := Scalar.indexCast v231
  ![v232.toNat]

def k0_chk45 (v238 : IVec S16 32) : Prop :=
  (∀ a x, ((![v238] : Fin 1 → IVec S16 32) a x).toNat < S8192.size a)
theorem k0_idx45_inb : ∀ (v238 : IVec S16 32) (k0_hw45 : k0_chk45 v238), ∀ a x, ((![v238] : Fin 1 → IVec S16 32) a x).toNat < S8192.size a := fun v238 k0_hw45 => k0_hw45
def k0_off48 (k0_t6 : Fin k0_t6_loop.trips) : Fin 1 → Nat :=
  let c20480_i32_141 : BitVec 32 := 20480#32
  let c0_i32_94 : BitVec 32 := 0#32
  let c1_i32_96 : BitVec 32 := 1#32
  let arg31 : BitVec 32 := Scf.iv c0_i32_94 c1_i32_96 k0_t6
  let c128_i32 : BitVec 32 := 128#32
  let v193 : BitVec 32 := Scalar.muli arg31 c128_i32
  let v194 : BitVec 32 := Scalar.addi c20480_i32_141 v193
  let c80_i32 : BitVec 32 := 80#32
  let v240 : BitVec 32 := Scalar.addi v194 c80_i32
  let v241 : Index := Scalar.indexCast v240
  ![v241.toNat]

def k0_chk46 (v247 : IVec S16 32) : Prop :=
  (∀ a x, ((![v247] : Fin 1 → IVec S16 32) a x).toNat < S8192.size a)
theorem k0_idx46_inb : ∀ (v247 : IVec S16 32) (k0_hw46 : k0_chk46 v247), ∀ a x, ((![v247] : Fin 1 → IVec S16 32) a x).toNat < S8192.size a := fun v247 k0_hw46 => k0_hw46
def k0_off49 (k0_t6 : Fin k0_t6_loop.trips) : Fin 1 → Nat :=
  let c20480_i32_141 : BitVec 32 := 20480#32
  let c0_i32_94 : BitVec 32 := 0#32
  let c1_i32_96 : BitVec 32 := 1#32
  let arg31 : BitVec 32 := Scf.iv c0_i32_94 c1_i32_96 k0_t6
  let c128_i32 : BitVec 32 := 128#32
  let v193 : BitVec 32 := Scalar.muli arg31 c128_i32
  let v194 : BitVec 32 := Scalar.addi c20480_i32_141 v193
  let c96_i32_166 : BitVec 32 := 96#32
  let v249 : BitVec 32 := Scalar.addi v194 c96_i32_166
  let v250 : Index := Scalar.indexCast v249
  ![v250.toNat]

def k0_chk47 (v256 : IVec S16 32) : Prop :=
  (∀ a x, ((![v256] : Fin 1 → IVec S16 32) a x).toNat < S8192.size a)
theorem k0_idx47_inb : ∀ (v256 : IVec S16 32) (k0_hw47 : k0_chk47 v256), ∀ a x, ((![v256] : Fin 1 → IVec S16 32) a x).toNat < S8192.size a := fun v256 k0_hw47 => k0_hw47
def k0_off50 (k0_t6 : Fin k0_t6_loop.trips) : Fin 1 → Nat :=
  let c20480_i32_141 : BitVec 32 := 20480#32
  let c0_i32_94 : BitVec 32 := 0#32
  let c1_i32_96 : BitVec 32 := 1#32
  let arg31 : BitVec 32 := Scf.iv c0_i32_94 c1_i32_96 k0_t6
  let c128_i32 : BitVec 32 := 128#32
  let v193 : BitVec 32 := Scalar.muli arg31 c128_i32
  let v194 : BitVec 32 := Scalar.addi c20480_i32_141 v193
  let c112_i32 : BitVec 32 := 112#32
  let v258 : BitVec 32 := Scalar.addi v194 c112_i32
  let v259 : Index := Scalar.indexCast v258
  ![v259.toNat]

def k0_chk48 (v265 : IVec S16 32) : Prop :=
  (∀ a x, ((![v265] : Fin 1 → IVec S16 32) a x).toNat < S8192.size a)
theorem k0_idx48_inb : ∀ (v265 : IVec S16 32) (k0_hw48 : k0_chk48 v265), ∀ a x, ((![v265] : Fin 1 → IVec S16 32) a x).toNat < S8192.size a := fun v265 k0_hw48 => k0_hw48
@[reducible] def k0_t7_loop : Scf.Loop 32 :=
  let c0_i32_106 : BitVec 32 := 0#32
  let c32_i32_107 : BitVec 32 := 32#32
  let v143 : BitVec 32 := Scalar.addi c0_i32_106 c32_i32_107
  let c1_i32_108 : BitVec 32 := 1#32
  ⟨c0_i32_106, v143, c1_i32_108⟩
def k0_off51 (k0_t7 : Fin k0_t7_loop.trips) : Fin 1 → Nat :=
  let c24576_i32_141 : BitVec 32 := 24576#32
  let c0_i32_106 : BitVec 32 := 0#32
  let c1_i32_108 : BitVec 32 := 1#32
  let arg31 : BitVec 32 := Scf.iv c0_i32_106 c1_i32_108 k0_t7
  let c128_i32 : BitVec 32 := 128#32
  let v193 : BitVec 32 := Scalar.muli arg31 c128_i32
  let v194 : BitVec 32 := Scalar.addi c24576_i32_141 v193
  let c0_i32_142 : BitVec 32 := 0#32
  let v195 : BitVec 32 := Scalar.addi v194 c0_i32_142
  let v196 : Index := Scalar.indexCast v195
  ![v196.toNat]

def k0_chk49 (v202 : IVec S16 32) : Prop :=
  (∀ a x, ((![v202] : Fin 1 → IVec S16 32) a x).toNat < S8192.size a)
theorem k0_idx49_inb : ∀ (v202 : IVec S16 32) (k0_hw49 : k0_chk49 v202), ∀ a x, ((![v202] : Fin 1 → IVec S16 32) a x).toNat < S8192.size a := fun v202 k0_hw49 => k0_hw49
def k0_off52 (k0_t7 : Fin k0_t7_loop.trips) : Fin 1 → Nat :=
  let c24576_i32_141 : BitVec 32 := 24576#32
  let c0_i32_106 : BitVec 32 := 0#32
  let c1_i32_108 : BitVec 32 := 1#32
  let arg31 : BitVec 32 := Scf.iv c0_i32_106 c1_i32_108 k0_t7
  let c128_i32 : BitVec 32 := 128#32
  let v193 : BitVec 32 := Scalar.muli arg31 c128_i32
  let v194 : BitVec 32 := Scalar.addi c24576_i32_141 v193
  let c16_i32 : BitVec 32 := 16#32
  let v204 : BitVec 32 := Scalar.addi v194 c16_i32
  let v205 : Index := Scalar.indexCast v204
  ![v205.toNat]

def k0_chk50 (v211 : IVec S16 32) : Prop :=
  (∀ a x, ((![v211] : Fin 1 → IVec S16 32) a x).toNat < S8192.size a)
theorem k0_idx50_inb : ∀ (v211 : IVec S16 32) (k0_hw50 : k0_chk50 v211), ∀ a x, ((![v211] : Fin 1 → IVec S16 32) a x).toNat < S8192.size a := fun v211 k0_hw50 => k0_hw50
def k0_off53 (k0_t7 : Fin k0_t7_loop.trips) : Fin 1 → Nat :=
  let c24576_i32_141 : BitVec 32 := 24576#32
  let c0_i32_106 : BitVec 32 := 0#32
  let c1_i32_108 : BitVec 32 := 1#32
  let arg31 : BitVec 32 := Scf.iv c0_i32_106 c1_i32_108 k0_t7
  let c128_i32 : BitVec 32 := 128#32
  let v193 : BitVec 32 := Scalar.muli arg31 c128_i32
  let v194 : BitVec 32 := Scalar.addi c24576_i32_141 v193
  let c32_i32_151 : BitVec 32 := 32#32
  let v213 : BitVec 32 := Scalar.addi v194 c32_i32_151
  let v214 : Index := Scalar.indexCast v213
  ![v214.toNat]

def k0_chk51 (v220 : IVec S16 32) : Prop :=
  (∀ a x, ((![v220] : Fin 1 → IVec S16 32) a x).toNat < S8192.size a)
theorem k0_idx51_inb : ∀ (v220 : IVec S16 32) (k0_hw51 : k0_chk51 v220), ∀ a x, ((![v220] : Fin 1 → IVec S16 32) a x).toNat < S8192.size a := fun v220 k0_hw51 => k0_hw51
def k0_off54 (k0_t7 : Fin k0_t7_loop.trips) : Fin 1 → Nat :=
  let c24576_i32_141 : BitVec 32 := 24576#32
  let c0_i32_106 : BitVec 32 := 0#32
  let c1_i32_108 : BitVec 32 := 1#32
  let arg31 : BitVec 32 := Scf.iv c0_i32_106 c1_i32_108 k0_t7
  let c128_i32 : BitVec 32 := 128#32
  let v193 : BitVec 32 := Scalar.muli arg31 c128_i32
  let v194 : BitVec 32 := Scalar.addi c24576_i32_141 v193
  let c48_i32 : BitVec 32 := 48#32
  let v222 : BitVec 32 := Scalar.addi v194 c48_i32
  let v223 : Index := Scalar.indexCast v222
  ![v223.toNat]

def k0_chk52 (v229 : IVec S16 32) : Prop :=
  (∀ a x, ((![v229] : Fin 1 → IVec S16 32) a x).toNat < S8192.size a)
theorem k0_idx52_inb : ∀ (v229 : IVec S16 32) (k0_hw52 : k0_chk52 v229), ∀ a x, ((![v229] : Fin 1 → IVec S16 32) a x).toNat < S8192.size a := fun v229 k0_hw52 => k0_hw52
def k0_off55 (k0_t7 : Fin k0_t7_loop.trips) : Fin 1 → Nat :=
  let c24576_i32_141 : BitVec 32 := 24576#32
  let c0_i32_106 : BitVec 32 := 0#32
  let c1_i32_108 : BitVec 32 := 1#32
  let arg31 : BitVec 32 := Scf.iv c0_i32_106 c1_i32_108 k0_t7
  let c128_i32 : BitVec 32 := 128#32
  let v193 : BitVec 32 := Scalar.muli arg31 c128_i32
  let v194 : BitVec 32 := Scalar.addi c24576_i32_141 v193
  let c64_i32_158 : BitVec 32 := 64#32
  let v231 : BitVec 32 := Scalar.addi v194 c64_i32_158
  let v232 : Index := Scalar.indexCast v231
  ![v232.toNat]

def k0_chk53 (v238 : IVec S16 32) : Prop :=
  (∀ a x, ((![v238] : Fin 1 → IVec S16 32) a x).toNat < S8192.size a)
theorem k0_idx53_inb : ∀ (v238 : IVec S16 32) (k0_hw53 : k0_chk53 v238), ∀ a x, ((![v238] : Fin 1 → IVec S16 32) a x).toNat < S8192.size a := fun v238 k0_hw53 => k0_hw53
def k0_off56 (k0_t7 : Fin k0_t7_loop.trips) : Fin 1 → Nat :=
  let c24576_i32_141 : BitVec 32 := 24576#32
  let c0_i32_106 : BitVec 32 := 0#32
  let c1_i32_108 : BitVec 32 := 1#32
  let arg31 : BitVec 32 := Scf.iv c0_i32_106 c1_i32_108 k0_t7
  let c128_i32 : BitVec 32 := 128#32
  let v193 : BitVec 32 := Scalar.muli arg31 c128_i32
  let v194 : BitVec 32 := Scalar.addi c24576_i32_141 v193
  let c80_i32 : BitVec 32 := 80#32
  let v240 : BitVec 32 := Scalar.addi v194 c80_i32
  let v241 : Index := Scalar.indexCast v240
  ![v241.toNat]

def k0_chk54 (v247 : IVec S16 32) : Prop :=
  (∀ a x, ((![v247] : Fin 1 → IVec S16 32) a x).toNat < S8192.size a)
theorem k0_idx54_inb : ∀ (v247 : IVec S16 32) (k0_hw54 : k0_chk54 v247), ∀ a x, ((![v247] : Fin 1 → IVec S16 32) a x).toNat < S8192.size a := fun v247 k0_hw54 => k0_hw54
def k0_off57 (k0_t7 : Fin k0_t7_loop.trips) : Fin 1 → Nat :=
  let c24576_i32_141 : BitVec 32 := 24576#32
  let c0_i32_106 : BitVec 32 := 0#32
  let c1_i32_108 : BitVec 32 := 1#32
  let arg31 : BitVec 32 := Scf.iv c0_i32_106 c1_i32_108 k0_t7
  let c128_i32 : BitVec 32 := 128#32
  let v193 : BitVec 32 := Scalar.muli arg31 c128_i32
  let v194 : BitVec 32 := Scalar.addi c24576_i32_141 v193
  let c96_i32_166 : BitVec 32 := 96#32
  let v249 : BitVec 32 := Scalar.addi v194 c96_i32_166
  let v250 : Index := Scalar.indexCast v249
  ![v250.toNat]

def k0_chk55 (v256 : IVec S16 32) : Prop :=
  (∀ a x, ((![v256] : Fin 1 → IVec S16 32) a x).toNat < S8192.size a)
theorem k0_idx55_inb : ∀ (v256 : IVec S16 32) (k0_hw55 : k0_chk55 v256), ∀ a x, ((![v256] : Fin 1 → IVec S16 32) a x).toNat < S8192.size a := fun v256 k0_hw55 => k0_hw55
def k0_off58 (k0_t7 : Fin k0_t7_loop.trips) : Fin 1 → Nat :=
  let c24576_i32_141 : BitVec 32 := 24576#32
  let c0_i32_106 : BitVec 32 := 0#32
  let c1_i32_108 : BitVec 32 := 1#32
  let arg31 : BitVec 32 := Scf.iv c0_i32_106 c1_i32_108 k0_t7
  let c128_i32 : BitVec 32 := 128#32
  let v193 : BitVec 32 := Scalar.muli arg31 c128_i32
  let v194 : BitVec 32 := Scalar.addi c24576_i32_141 v193
  let c112_i32 : BitVec 32 := 112#32
  let v258 : BitVec 32 := Scalar.addi v194 c112_i32
  let v259 : Index := Scalar.indexCast v258
  ![v259.toNat]

def k0_chk56 (v265 : IVec S16 32) : Prop :=
  (∀ a x, ((![v265] : Fin 1 → IVec S16 32) a x).toNat < S8192.size a)
theorem k0_idx56_inb : ∀ (v265 : IVec S16 32) (k0_hw56 : k0_chk56 v265), ∀ a x, ((![v265] : Fin 1 → IVec S16 32) a x).toNat < S8192.size a := fun v265 k0_hw56 => k0_hw56
@[reducible] def k0_t8_loop : Scf.Loop 32 :=
  let c0_i32_118 : BitVec 32 := 0#32
  let c32_i32_119 : BitVec 32 := 32#32
  let v155 : BitVec 32 := Scalar.addi c0_i32_118 c32_i32_119
  let c1_i32_120 : BitVec 32 := 1#32
  ⟨c0_i32_118, v155, c1_i32_120⟩
def k0_off59 (k0_t8 : Fin k0_t8_loop.trips) : Fin 1 → Nat :=
  let c28672_i32_141 : BitVec 32 := 28672#32
  let c0_i32_118 : BitVec 32 := 0#32
  let c1_i32_120 : BitVec 32 := 1#32
  let arg31 : BitVec 32 := Scf.iv c0_i32_118 c1_i32_120 k0_t8
  let c128_i32 : BitVec 32 := 128#32
  let v193 : BitVec 32 := Scalar.muli arg31 c128_i32
  let v194 : BitVec 32 := Scalar.addi c28672_i32_141 v193
  let c0_i32_142 : BitVec 32 := 0#32
  let v195 : BitVec 32 := Scalar.addi v194 c0_i32_142
  let v196 : Index := Scalar.indexCast v195
  ![v196.toNat]

def k0_chk57 (v202 : IVec S16 32) : Prop :=
  (∀ a x, ((![v202] : Fin 1 → IVec S16 32) a x).toNat < S8192.size a)
theorem k0_idx57_inb : ∀ (v202 : IVec S16 32) (k0_hw57 : k0_chk57 v202), ∀ a x, ((![v202] : Fin 1 → IVec S16 32) a x).toNat < S8192.size a := fun v202 k0_hw57 => k0_hw57
def k0_off60 (k0_t8 : Fin k0_t8_loop.trips) : Fin 1 → Nat :=
  let c28672_i32_141 : BitVec 32 := 28672#32
  let c0_i32_118 : BitVec 32 := 0#32
  let c1_i32_120 : BitVec 32 := 1#32
  let arg31 : BitVec 32 := Scf.iv c0_i32_118 c1_i32_120 k0_t8
  let c128_i32 : BitVec 32 := 128#32
  let v193 : BitVec 32 := Scalar.muli arg31 c128_i32
  let v194 : BitVec 32 := Scalar.addi c28672_i32_141 v193
  let c16_i32 : BitVec 32 := 16#32
  let v204 : BitVec 32 := Scalar.addi v194 c16_i32
  let v205 : Index := Scalar.indexCast v204
  ![v205.toNat]

def k0_chk58 (v211 : IVec S16 32) : Prop :=
  (∀ a x, ((![v211] : Fin 1 → IVec S16 32) a x).toNat < S8192.size a)
theorem k0_idx58_inb : ∀ (v211 : IVec S16 32) (k0_hw58 : k0_chk58 v211), ∀ a x, ((![v211] : Fin 1 → IVec S16 32) a x).toNat < S8192.size a := fun v211 k0_hw58 => k0_hw58
def k0_off61 (k0_t8 : Fin k0_t8_loop.trips) : Fin 1 → Nat :=
  let c28672_i32_141 : BitVec 32 := 28672#32
  let c0_i32_118 : BitVec 32 := 0#32
  let c1_i32_120 : BitVec 32 := 1#32
  let arg31 : BitVec 32 := Scf.iv c0_i32_118 c1_i32_120 k0_t8
  let c128_i32 : BitVec 32 := 128#32
  let v193 : BitVec 32 := Scalar.muli arg31 c128_i32
  let v194 : BitVec 32 := Scalar.addi c28672_i32_141 v193
  let c32_i32_151 : BitVec 32 := 32#32
  let v213 : BitVec 32 := Scalar.addi v194 c32_i32_151
  let v214 : Index := Scalar.indexCast v213
  ![v214.toNat]

def k0_chk59 (v220 : IVec S16 32) : Prop :=
  (∀ a x, ((![v220] : Fin 1 → IVec S16 32) a x).toNat < S8192.size a)
theorem k0_idx59_inb : ∀ (v220 : IVec S16 32) (k0_hw59 : k0_chk59 v220), ∀ a x, ((![v220] : Fin 1 → IVec S16 32) a x).toNat < S8192.size a := fun v220 k0_hw59 => k0_hw59
def k0_off62 (k0_t8 : Fin k0_t8_loop.trips) : Fin 1 → Nat :=
  let c28672_i32_141 : BitVec 32 := 28672#32
  let c0_i32_118 : BitVec 32 := 0#32
  let c1_i32_120 : BitVec 32 := 1#32
  let arg31 : BitVec 32 := Scf.iv c0_i32_118 c1_i32_120 k0_t8
  let c128_i32 : BitVec 32 := 128#32
  let v193 : BitVec 32 := Scalar.muli arg31 c128_i32
  let v194 : BitVec 32 := Scalar.addi c28672_i32_141 v193
  let c48_i32 : BitVec 32 := 48#32
  let v222 : BitVec 32 := Scalar.addi v194 c48_i32
  let v223 : Index := Scalar.indexCast v222
  ![v223.toNat]

def k0_chk60 (v229 : IVec S16 32) : Prop :=
  (∀ a x, ((![v229] : Fin 1 → IVec S16 32) a x).toNat < S8192.size a)
theorem k0_idx60_inb : ∀ (v229 : IVec S16 32) (k0_hw60 : k0_chk60 v229), ∀ a x, ((![v229] : Fin 1 → IVec S16 32) a x).toNat < S8192.size a := fun v229 k0_hw60 => k0_hw60
def k0_off63 (k0_t8 : Fin k0_t8_loop.trips) : Fin 1 → Nat :=
  let c28672_i32_141 : BitVec 32 := 28672#32
  let c0_i32_118 : BitVec 32 := 0#32
  let c1_i32_120 : BitVec 32 := 1#32
  let arg31 : BitVec 32 := Scf.iv c0_i32_118 c1_i32_120 k0_t8
  let c128_i32 : BitVec 32 := 128#32
  let v193 : BitVec 32 := Scalar.muli arg31 c128_i32
  let v194 : BitVec 32 := Scalar.addi c28672_i32_141 v193
  let c64_i32_158 : BitVec 32 := 64#32
  let v231 : BitVec 32 := Scalar.addi v194 c64_i32_158
  let v232 : Index := Scalar.indexCast v231
  ![v232.toNat]

def k0_chk61 (v238 : IVec S16 32) : Prop :=
  (∀ a x, ((![v238] : Fin 1 → IVec S16 32) a x).toNat < S8192.size a)
theorem k0_idx61_inb : ∀ (v238 : IVec S16 32) (k0_hw61 : k0_chk61 v238), ∀ a x, ((![v238] : Fin 1 → IVec S16 32) a x).toNat < S8192.size a := fun v238 k0_hw61 => k0_hw61
def k0_off64 (k0_t8 : Fin k0_t8_loop.trips) : Fin 1 → Nat :=
  let c28672_i32_141 : BitVec 32 := 28672#32
  let c0_i32_118 : BitVec 32 := 0#32
  let c1_i32_120 : BitVec 32 := 1#32
  let arg31 : BitVec 32 := Scf.iv c0_i32_118 c1_i32_120 k0_t8
  let c128_i32 : BitVec 32 := 128#32
  let v193 : BitVec 32 := Scalar.muli arg31 c128_i32
  let v194 : BitVec 32 := Scalar.addi c28672_i32_141 v193
  let c80_i32 : BitVec 32 := 80#32
  let v240 : BitVec 32 := Scalar.addi v194 c80_i32
  let v241 : Index := Scalar.indexCast v240
  ![v241.toNat]

def k0_chk62 (v247 : IVec S16 32) : Prop :=
  (∀ a x, ((![v247] : Fin 1 → IVec S16 32) a x).toNat < S8192.size a)
theorem k0_idx62_inb : ∀ (v247 : IVec S16 32) (k0_hw62 : k0_chk62 v247), ∀ a x, ((![v247] : Fin 1 → IVec S16 32) a x).toNat < S8192.size a := fun v247 k0_hw62 => k0_hw62
def k0_off65 (k0_t8 : Fin k0_t8_loop.trips) : Fin 1 → Nat :=
  let c28672_i32_141 : BitVec 32 := 28672#32
  let c0_i32_118 : BitVec 32 := 0#32
  let c1_i32_120 : BitVec 32 := 1#32
  let arg31 : BitVec 32 := Scf.iv c0_i32_118 c1_i32_120 k0_t8
  let c128_i32 : BitVec 32 := 128#32
  let v193 : BitVec 32 := Scalar.muli arg31 c128_i32
  let v194 : BitVec 32 := Scalar.addi c28672_i32_141 v193
  let c96_i32_166 : BitVec 32 := 96#32
  let v249 : BitVec 32 := Scalar.addi v194 c96_i32_166
  let v250 : Index := Scalar.indexCast v249
  ![v250.toNat]

def k0_chk63 (v256 : IVec S16 32) : Prop :=
  (∀ a x, ((![v256] : Fin 1 → IVec S16 32) a x).toNat < S8192.size a)
theorem k0_idx63_inb : ∀ (v256 : IVec S16 32) (k0_hw63 : k0_chk63 v256), ∀ a x, ((![v256] : Fin 1 → IVec S16 32) a x).toNat < S8192.size a := fun v256 k0_hw63 => k0_hw63
def k0_off66 (k0_t8 : Fin k0_t8_loop.trips) : Fin 1 → Nat :=
  let c28672_i32_141 : BitVec 32 := 28672#32
  let c0_i32_118 : BitVec 32 := 0#32
  let c1_i32_120 : BitVec 32 := 1#32
  let arg31 : BitVec 32 := Scf.iv c0_i32_118 c1_i32_120 k0_t8
  let c128_i32 : BitVec 32 := 128#32
  let v193 : BitVec 32 := Scalar.muli arg31 c128_i32
  let v194 : BitVec 32 := Scalar.addi c28672_i32_141 v193
  let c112_i32 : BitVec 32 := 112#32
  let v258 : BitVec 32 := Scalar.addi v194 c112_i32
  let v259 : Index := Scalar.indexCast v258
  ![v259.toNat]

def k0_chk64 (v265 : IVec S16 32) : Prop :=
  (∀ a x, ((![v265] : Fin 1 → IVec S16 32) a x).toNat < S8192.size a)
theorem k0_idx64_inb : ∀ (v265 : IVec S16 32) (k0_hw64 : k0_chk64 v265), ∀ a x, ((![v265] : Fin 1 → IVec S16 32) a x).toNat < S8192.size a := fun v265 k0_hw64 => k0_hw64
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x128 : Shape := ⟨2, ![8192, 128]⟩
abbrev S1048576 : Shape := ⟨1, ![1048576]⟩
abbrev S_ : Shape := ⟨0, ![]⟩
abbrev S2097152 : Shape := ⟨1, ![2097152]⟩
abbrev S1048576x1 : Shape := ⟨2, ![1048576, 1]⟩
abbrev S16384x128 : Shape := ⟨2, ![16384, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1048576, .i32⟩
  | .hbm, ⟨2, _⟩ => ⟨S_, .i32⟩
  | .hbm, ⟨3, _⟩ => ⟨S1048576, .i32⟩
  | .hbm, ⟨4, _⟩ => ⟨S1048576, .i32⟩
  | .hbm, ⟨5, _⟩ => ⟨S_, .i32⟩
  | .hbm, ⟨6, _⟩ => ⟨S1048576, .i32⟩
  | .hbm, ⟨7, _⟩ => ⟨S1048576, .i32⟩
  | .hbm, ⟨8, _⟩ => ⟨S1048576, .i32⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S_, .f32⟩
  | .hbm, ⟨13, _⟩ => ⟨S2097152, .f32⟩
  | .hbm, ⟨14, _⟩ => ⟨S1048576, .f32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S2097152, .f32⟩
  | .hbm, ⟨24, _⟩ => ⟨S_, .f32⟩
  | .hbm, ⟨25, _⟩ => ⟨S1048576, .f32⟩
  | .hbm, ⟨26, _⟩ => ⟨S_, .f32⟩
  | .hbm, ⟨27, _⟩ => ⟨S2097152, .f32⟩
  | .hbm, ⟨28, _⟩ => ⟨S_, .i32⟩
  | .hbm, ⟨29, _⟩ => ⟨S1048576, .i32⟩
  | .hbm, ⟨30, _⟩ => ⟨S1048576, .i1⟩
  | .hbm, ⟨31, _⟩ => ⟨S_, .i32⟩
  | .hbm, ⟨32, _⟩ => ⟨S1048576, .i32⟩
  | .hbm, ⟨33, _⟩ => ⟨S1048576, .i32⟩
  | .hbm, ⟨34, _⟩ => ⟨S1048576, .i32⟩
  | .hbm, ⟨35, _⟩ => ⟨S1048576x1, .i32⟩
  | .hbm, ⟨36, _⟩ => ⟨S2097152, .f32⟩
  | .hbm, ⟨37, _⟩ => ⟨S2097152, .f32⟩
  | .hbm, ⟨38, _⟩ => ⟨S16384x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_c_6 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Prog.lean ====
/-
  The tile's program written over the chunk number.  The printed body is straight-line over eight chunks; here each chunk's
  copies, waits and loop are written once, at a symbolic chunk, and the printed body is shown to be them in order.
-/
module

public import proofs.«01_k».proof.Proof.Gen.KernelIdeal.Skeleton

@[expose] public section

noncomputable section

namespace Cert.Proof.Ext

open Idealize.ShloMosaic Idealize.SL.Sem
open Cert.KernelIdeal Cert.KernelIdeal.Gen

variable {F : FTy → Type}

abbrev xHbm : Memref sig .scVector .hbm S1048576 .f32 := Memref.whole main_v1_scv
abbrev nHbm : Memref sig .scVector .hbm S8192 .f32 := Memref.whole main_v0_scv
abbrev oHbm : Memref sig .scVector .hbm S2097152 .f32 := Memref.whole main_v2_scv
abbrev iVm : Memref sig .scVector .vmem S32768 .f32 := Memref.whole cc0_scratch0
abbrev oVm : Memref sig .scVector .vmem S65536 .f32 := Memref.whole cc0_scratch1

/-! ## The chunks' slices and cells -/

theorem inb_in (s : Fin 8) : ∀ a, (![4096 * s.val] : Fin 1 → ℕ) a + S4096.size a ≤ S32768.size a := by
  intro a; have := s.isLt; match a with | 0 => show 4096 * s.val + 4096 ≤ 32768; omega
theorem inb_out (s : Fin 8) : ∀ a, (![8192 * s.val] : Fin 1 → ℕ) a + S8192.size a ≤ S65536.size a := by
  intro a; have := s.isLt; match a with | 0 => show 8192 * s.val + 8192 ≤ 65536; omega

/-- Chunk `s` of the input scratch. -/
abbrev inCh (s : Fin 8) : Memref sig .scVector .vmem S4096 .f32 :=
  iVm.slice (Rect.unit (s := S32768) ![4096 * s.val] S4096.size (inb_in s)) (fun _ => rfl)
/-- Chunk `s` of the output scratch. -/
abbrev outCh (s : Fin 8) : Memref sig .scVector .vmem S8192 .f32 :=
  oVm.slice (Rect.unit (s := S65536) ![8192 * s.val] S8192.size (inb_out s)) (fun _ => rfl)
/-- Chunk `s` of the task's part of the input in HBM. -/
abbrev srcCh (i : grid0.Coords) (s : Fin 8) : Memref sig .scVector .hbm S4096 .f32 :=
  xHbm.slice (Rect.unit (s := S1048576) (k0_off1 i (BitVec.ofNat 32 (4096 * s.val))) S4096.size (k0_off1_inb i s)) (fun _ => rfl)
/-- Chunk `s` of the task's part of the output in HBM. -/
abbrev dstCh (i : grid0.Coords) (s : Fin 8) : Memref sig .scVector .hbm S8192 .f32 :=
  oHbm.slice (Rect.unit (s := S2097152) (k0_off10 i (BitVec.ofNat 32 (8192 * s.val))) S8192.size (k0_off10_inb i s)) (fun _ => rfl)

/-- Chunk `s`'s cell of the input copies, of the fill copies, of the output copies. -/
def semIn : Fin 8 → DmaSem sig := ![cc0_scratch2.sem, cc0_scratch3.sem, cc0_scratch4.sem, cc0_scratch5.sem, cc0_scratch6.sem, cc0_scratch7.sem, cc0_scratch8.sem, cc0_scratch9.sem]
def semFill : Fin 8 → DmaSem sig := ![cc0_scratch10.sem, cc0_scratch11.sem, cc0_scratch12.sem, cc0_scratch13.sem, cc0_scratch14.sem, cc0_scratch15.sem, cc0_scratch16.sem, cc0_scratch17.sem]
def semOut : Fin 8 → DmaSem sig := ![cc0_scratch18.sem, cc0_scratch19.sem, cc0_scratch20.sem, cc0_scratch21.sem, cc0_scratch22.sem, cc0_scratch23.sem, cc0_scratch24.sem, cc0_scratch25.sem]

/-! ## The program -/

/-- Steps over a list, in order. -/
def seqL {E : Type → Type} {α : Type} (step : α → Prog E PUnit) : List α → Prog E PUnit
  | [] => pure ⟨⟩
  | a :: l => step a >>= fun _ => seqL step l

/-- Word offset of trip `t` of chunk `s`'s loop in the input scratch. -/
def tripW (s : Fin 8) (t : Fin k0_t1_loop.trips) : BitVec 32 :=
  Scalar.addi (BitVec.ofNat 32 (4096 * s.val)) (Scalar.muli (Scf.iv 0#32 1#32 t) 128#32)
/-- Offsets of group `u`'s load. -/
def grpOff (s : Fin 8) (t : Fin k0_t1_loop.trips) (u : Fin 8) : Fin 1 → ℕ :=
  ![(Scalar.indexCast (Scalar.addi (tripW s t) (BitVec.ofNat 32 (16 * u.val)))).toNat]
/-- Positions group `u` writes, within chunk `s` of the output scratch. -/
def grpIdx (s : Fin 8) (t : Fin k0_t1_loop.trips) (u : Fin 8) : IVec S16 32 :=
  addi (broadcast S16 (Scalar.subi (Scalar.addi (Scalar.muli 2#32 (tripW s t)) (BitVec.ofNat 32 (32 * u.val))) (BitVec.ofNat 32 (8192 * s.val)))) k0_pay57

theorem grpOff_eq : ∀ (s : Fin 8) (t : Fin k0_t1_loop.trips) (u : Fin 8), grpOff s t u = ![4096 * s.val + 128 * t.val + 16 * u.val] := by
  decide +kernel
theorem grpOff_inb (s : Fin 8) (t : Fin k0_t1_loop.trips) (u : Fin 8) : ∀ a, grpOff s t u a + S16.size a ≤ S32768.size a := by
  have ht : t.val < 32 := t.isLt
  intro a; rw [grpOff_eq]; match a with | 0 => have := s.isLt; have := u.isLt; show 4096 * s.val + 128 * t.val + 16 * u.val + 16 ≤ 32768; omega

variable [FloatOps F]

abbrev TileProg (F : FTy → Type) [FloatOps F] (i : grid0.Coords) : Type 1 :=
  Prog (TpuEff nD τ sig (Elt F) Λ₀ (.scVector ((i 0).castLE hcore0) ((i 1).castLE hsub0))) PUnit

/-- Group `u` of trip `t` of chunk `s`: load sixteen words, store them at their positions. -/
def grp (i : grid0.Coords) (s : Fin 8) (t : Fin k0_t1_loop.trips) (u : Fin 8) : TileProg F i := do
  let w : Vec F S16 .f32 ← Prog.lift (.load iVm (Rect.unit (s := S32768) (grpOff s t u) S16.size (grpOff_inb s t u)).toLoadRect (View.loadsAt_vmem h_S16))
  have hw : k0_chk1 (grpIdx s t u) := (← Prog.lift (TpuEff.assume (k0_chk1 (grpIdx s t u)) (k0_chk1.dec (grpIdx s t u)))).down
  SparseCore.vectorStoreIdx (outCh s) ![grpIdx s t u] w (fun _ => 1#1) false (k0_idx1_inb _ hw) (View.stores_vmem_bits_univ h_S8192 rfl)

def trip (i : grid0.Coords) (s : Fin 8) (t : Fin k0_t1_loop.trips) : TileProg F i := seqL (grp i s t) [0, 1, 2, 3, 4, 5, 6, 7]

/-- Chunk `s`'s two copies in. -/
def start (i : grid0.Coords) (s : Fin 8) : TileProg F i := do
  Prog.lift (.enqueueDma nHbm (.here (outCh s)) (.dma (semFill s)) (Memref.isWhole_whole _).wordExact (View.wordExact_bits rfl) ⟨Or.inl rfl, trivial⟩)
  Prog.lift (.enqueueDma (srcCh i s) (.here (inCh s)) (.dma (semIn s)) (View.wordExact_bits rfl) (View.wordExact_bits rfl) ⟨Or.inl rfl, trivial⟩)

/-- Chunk `s`'s two waits, its loop, its copy out. -/
def work (i : grid0.Coords) (s : Fin 8) : TileProg F i := do
  Prog.lift (.waitDma2 (semFill s) nHbm (outCh s) (Memref.isWhole_whole _).wordExact (View.wordExact_bits rfl))
  Prog.lift (.waitDma2 (semIn s) (srcCh i s) (inCh s) (View.wordExact_bits rfl) (View.wordExact_bits rfl))
  Scf.Loop.for k0_t1_loop k0_t1_ok ⟨⟩ (fun t _ => trip i s t)
  Prog.lift (.enqueueDma (outCh s) (.here (dstCh i s)) (.dma (semOut s)) (View.wordExact_bits rfl) (View.wordExact_bits rfl) ⟨Or.inl rfl, trivial⟩)

/-- The wait for chunk `s`'s copy out. -/
def drain (i : grid0.Coords) (s : Fin 8) : TileProg F i :=
  Prog.lift (.waitDma2 (semOut s) (outCh s) (dstCh i s) (View.wordExact_bits rfl) (View.wordExact_bits rfl))

def chunks : List (Fin 8) := [0, 1, 2, 3, 4, 5, 6, 7]

def tileProg (i : grid0.Coords) : TileProg F i := do
  seqL (start i) chunks
  seqL (work i) chunks
  seqL (drain i) chunks

/-- The printed body at the launch's arguments. -/
abbrev tileBody (F : FTy → Type) [FloatOps F] (i : grid0.Coords) : TileProg F i :=
  cc0__extend_sc i xHbm (Memref.isWhole_whole _) nHbm (Memref.isWhole_whole _) oHbm (Memref.isWhole_whole _)
    iVm (Memref.isWhole_whole _) oVm (Memref.isWhole_whole _)
    cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25

set_option maxRecDepth 65536 in
set_option maxHeartbeats 4000000 in
/-- The printed body is the chunks' program. -/
theorem tileBody_eq (i : grid0.Coords) : tileBody F i = tileProg i := by
  unfold tileBody tileProg
  simp only [cc0__extend_sc_eq_skeleton, cc0__extend_sc_skel, k0_part17_eq_skeleton, k0_part18_eq_skeleton, k0_part19_eq_skeleton, k0_part20_eq_skeleton,
    k0_part21_eq_skeleton, k0_part22_eq_skeleton, k0_part17_skel, k0_part18_skel, k0_part19_skel, k0_part20_skel, k0_part21_skel, k0_part22_skel,
    chunks, seqL, start, work, drain, bind_assoc, pure_bind]
  rfl

end Cert.Proof.Ext

end
-- ==== Proof.Vals.lean ====
/-
  What a chunk of the output scratch holds: the fill, with the first `n` input words at the odd positions.  One group of a
  loop's trip takes `n` to `n + 16`.
-/
module

public import proofs.«01_k».proof.Proof.Prog

@[expose] public section

noncomputable section

namespace Cert.Proof.Ext

open Idealize.ShloMosaic Idealize.SL.Sem
open Cert.KernelIdeal Cert.KernelIdeal.Gen

variable {F : FTy → Type}

/-- Half a position of an output chunk: a position of the input chunk. -/
def half (j : S8192.Idx) : S4096.Idx := fun a => match a with
  | 0 => ⟨(j 0).val / 2, by have h : (j 0).val < 8192 := (j 0).isLt; show (j 0).val / 2 < 4096; omega⟩

/-- An output chunk over the fill `nv` with the first `n` words of `x` at the odd positions. -/
def mix {α : Type} (x : S4096.Idx → α) (nv : S8192.Idx → α) (n : ℕ) : S8192.Idx → α := fun j =>
  if (j 0).val % 2 = 1 ∧ (j 0).val / 2 < n then x (half j) else nv j

theorem mix_zero {α : Type} (x : S4096.Idx → α) (nv : S8192.Idx → α) : mix x nv 0 = nv := by
  funext j; simp [mix]

/-- A store of sixteen words at the positions `2(n + k) + 1` adds sixteen words. -/
theorem storeIdx_mix [FloatOps F] (x : S4096.Idx → Elt F .f32) (nv : S8192.Idx → Elt F .f32) (n : ℕ) (idx : IVec S16 32) (w : Vec F S16 .f32)
    (h : ∀ a y, ((![idx] : Fin 1 → IVec S16 32) a y).toNat < S8192.size a)
    (hidx : ∀ y : S16.Idx, (idx y).toNat = 2 * (n + (y 0).val) + 1)
    (hw : ∀ (y : S16.Idx) (z : S4096.Idx), (z 0).val = n + (y 0).val → w y = x z) :
    storeIdx (F := F) (s := S8192) (e := .f32) (mix x nv n) ![idx] w (fun _ => 1#1) false h = mix x nv (n + 16) := by
  have key : ∀ m, m ≤ 16 → ((List.finRange 16).take m).foldl (fun (g : Vec F S8192 .f32) (k : Fin 16) =>
      fun j => if (∀ a, (j a).val = (idxAt (s := S8192) ![idx] h (Shape.ofLane (d := ![16]) k) a).val) then w (Shape.ofLane (d := ![16]) k) else g j) (mix x nv n)
        = mix x nv (n + m) := by
    intro m
    induction m with
    | zero => intro _; rfl
    | succ m ih =>
      intro hm
      have hlt : m < (List.finRange 16).length := by simp; omega
      rw [List.take_succ_eq_append_getElem hlt, List.foldl_append, ih (by omega)]
      funext j
      have hk : ((List.finRange 16)[m]'hlt).val = m := by simp
      set k : Fin 16 := (List.finRange 16)[m]'hlt
      have hi := hidx (Shape.ofLane (d := ![16]) k)
      have hcond : (∀ a, (j a).val = (idxAt (s := S8192) ![idx] h (Shape.ofLane (d := ![16]) k) a).val) ↔ (j 0).val = 2 * (n + m) + 1 := by
        rw [← hk]
        refine ⟨fun e => (e 0).trans hi, fun e a => ?_⟩
        match a with | 0 => exact e.trans hi.symm
      show (if _ then _ else _) = _
      rw [if_congr hcond rfl rfl]
      unfold mix
      by_cases e : (j 0).val = 2 * (n + m) + 1
      · rw [if_pos e, if_pos (by omega)]
        refine hw _ _ ?_
        show (j 0).val / 2 = n + k.val
        omega
      · rw [if_neg e]
        refine if_congr ?_ rfl rfl
        omega
  have hk := key 16 (le_refl _)
  rw [List.take_of_length_le (by simp)] at hk
  unfold storeIdx
  simp only [↓reduceIte, Bool.false_eq_true]
  exact hk

theorem base_toNat : ∀ (s : Fin 8) (t : Fin k0_t1_loop.trips) (u : Fin 8),
    (Scalar.subi (Scalar.addi (Scalar.muli 2#32 (tripW s t)) (BitVec.ofNat 32 (32 * u.val))) (BitVec.ofNat 32 (8192 * s.val))).toNat = 256 * t.val + 32 * u.val := by
  decide +kernel
theorem lane_toNat : ∀ k : Fin 16, (k0_pay57 (Shape.ofLane (d := ![16]) k)).toNat = 2 * k.val + 1 := by
  decide +kernel

theorem grpIdx_toNat (s : Fin 8) (t : Fin k0_t1_loop.trips) (u : Fin 8) (y : S16.Idx) :
    (grpIdx s t u y).toNat = 2 * (128 * t.val + 16 * u.val + (y 0).val) + 1 := by
  have ht : t.val < 32 := t.isLt
  have hu := u.isLt
  have hy : (y 0).val < 16 := (y 0).isLt
  have h1 := base_toNat s t u
  have h2 := lane_toNat (y 0)
  rw [show Shape.ofLane (d := ![16]) (y 0) = y from funext fun a => match a with | 0 => rfl] at h2
  show (_ + k0_pay57 y : BitVec 32).toNat = _
  rw [BitVec.toNat_add]
  show ((Scalar.subi (Scalar.addi (Scalar.muli 2#32 (tripW s t)) (BitVec.ofNat 32 (32 * u.val))) (BitVec.ofNat 32 (8192 * s.val))).toNat + _) % _ = _
  rw [h1, h2]; omega

/-- Every position a group names lies in its chunk. -/
theorem grpIdx_chk (s : Fin 8) (t : Fin k0_t1_loop.trips) (u : Fin 8) : k0_chk1 (grpIdx s t u) := by
  have ht : t.val < 32 := t.isLt
  intro a y
  have hy : (y 0).val < 16 := (y 0).isLt
  have hu := u.isLt
  match a with
  | 0 => show (grpIdx s t u y).toNat < 8192; rw [grpIdx_toNat]; omega

end Cert.Proof.Ext

end
-- ==== Proof.Group.lean ====
/-
  The launch set-up's abbreviations, and one chunk's loop: its groups and trips take the output chunk from the fill to the
  fill with every input word at its odd position.
-/
module

public import proofs.«01_k».proof.Defs
public import proofs.«01_k».proof.Proof.Vals
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Tactic
public import Idealize.ShloMosaic.Lib.Pipeline.ValueKit.Geometry

@[expose] public section

noncomputable section

namespace Cert.Proof.Ext

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds and the transfers' counters. -/
abbrev UU : Type := URounds (GSem nD τ sig) ℕ × Counters

local notation "𝕄" => MT nD τ sig (HIx 1) (Elt F) ℕ UU ℕ

/-- The task's vector subcore. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## Views: a whole rectangle of a view, a write over a write -/

section Views
variable {κ : Kind} {sp : Space} {s : Shape} {e : EltTy} (v : View sig κ sp s e)

theorem set_slice_all : (v.slice (.whole s)).set = v.set := by
  rw [View.set_slice, Rect.set_whole]; rfl
theorem read_slice_all (f : v.ty.Contents (Elt F)) : (v.slice (.whole s)).read (Elt F) f = v.read (Elt F) f :=
  funext fun x => by
    rw [View.read_apply, View.read_apply]
    exact congrArg _ (congrArg (fun y => f (v.emb y)) (Rect.emb_whole_apply s x))
theorem write_slice_all (f : v.ty.Contents (Elt F)) (w : s.Idx → Elt F e) :
    (v.slice (.whole s)).write (Elt F) f w Finset.univ = v.write (Elt F) f w Finset.univ := by
  funext i
  by_cases h : i ∈ v.set
  · obtain ⟨x, -, rfl⟩ := Finset.mem_map.mp h
    have e1 : v.emb x = (v.slice (.whole s)).emb x := congrArg v.emb (Rect.emb_whole_apply s x).symm
    rw [View.write_emb_of_mem _ _ (Finset.mem_univ x), e1, View.write_emb_of_mem _ _ (Finset.mem_univ _)]
  · rw [View.write_of_not_mem _ _ _ h, View.write_of_not_mem]
    intro h'; exact h (set_slice_all v ▸ h')
theorem write_write_all (f : v.ty.Contents (Elt F)) (w w' : s.Idx → Elt F e) :
    v.write (Elt F) (v.write (Elt F) f w Finset.univ) w' Finset.univ = v.write (Elt F) f w' Finset.univ :=
  funext fun i => View.write_congr (fun _ _ _ => rfl) fun h => View.write_of_not_mem _ _ _ h

end Views

/-! ## Steps over a list -/

/-! ## The chunks as intervals -/

theorem mem_inCh (s : Fin 8) (i : S32768.Idx) : i ∈ (inCh s).view.set ↔ 4096 * s.val ≤ (i 0).val ∧ (i 0).val < 4096 * s.val + 4096 := by
  refine (ValueKit.mem_set_slice_whole_iff cc0_scratch0 (Rect.unit (s := S32768) ![4096 * s.val] S4096.size (inb_in s)) i Rect.mem_set_unit).trans ?_
  exact ⟨fun h => h 0, fun h a => match a with | 0 => h⟩

variable [FloatOps F] (d : Dev nD) (L : grid0.Coords)

abbrev wpT {α : Type} (p : Prog (TpuEff nD τ sig (Elt F) Λ₀ (thr d L).2) α) (Q : α → sProp 𝕄) : sProp 𝕄 :=
  wp frame (wpE (defs₀ (F := F)) 𝒱₀ (thr d L) none) Set.univ p Q

/-- Steps over a list, each taking `I` at its place to `I` at the next. -/
theorem wp_chain {α : Type} (step : α → TileProg F L) (I : ℕ → sProp 𝕄) : ∀ (l : List α) (n : ℕ),
    (∀ (k : ℕ) (a : α), l[k]? = some a → I (n + k) ⊢ wpT d L (step a) fun _ => I (n + k + 1)) →
    I n ⊢ wpT d L (seqL step l) fun _ => I (n + l.length)
  | [], n, _ => by
    show I n ⊢ wp frame _ _ (Prog.ret PUnit.unit) _
    rw [wp_ret]; iintro H; imodintro; iexact H
  | a :: l, n, h => by
    show I n ⊢ wp frame _ _ (step a >>= fun _ => seqL step l) _
    rw [wp_bind]
    refine (h 0 a rfl).trans (wp_mono frame _ _ fun _ => ?_)
    have := wp_chain step I l (n + 1) fun k b hb => by
      have := h (k + 1) b hb
      rwa [show n + (k + 1) = n + 1 + k by omega] at this
    rwa [show n + 1 + l.length = n + (a :: l).length by rw [List.length_cons]; omega] at this

/-- A separating conjunction over a list. -/
def sepL {α : Type} (Φ : α → sProp 𝕄) : List α → sProp 𝕄
  | [] => iprop(emp)
  | a :: l => iprop(Φ a ∗ sepL Φ l)

omit [FloatOps F] in
theorem sepL_eq {α : Type} [DecidableEq α] (Φ : α → sProp 𝕄) : ∀ (l : List α), l.Nodup → sepL Φ l = bigSep l.toFinset Φ
  | [], _ => (bigSep_empty).symm
  | a :: l, h => by
    rw [List.toFinset_cons, SparseCore.bigSep_insert' (by rw [List.mem_toFinset]; exact (List.nodup_cons.mp h).1), ← sepL_eq Φ l (List.nodup_cons.mp h).2]; rfl

/-- Steps over a list, each with its own resources and a common one handed from step to step. -/
theorem wp_seqL {α : Type} (step : α → TileProg F L) (Pre Post : α → sProp 𝕄) (C : sProp 𝕄)
    (h : ∀ a, iprop(Pre a ∗ C) ⊢ wpT d L (step a) fun _ => iprop(Post a ∗ C)) : ∀ l : List α,
    iprop(sepL Pre l ∗ C) ⊢ wpT d L (seqL step l) fun _ => iprop(sepL Post l ∗ C)
  | [] => by
    show _ ⊢ wp frame _ _ (Prog.ret PUnit.unit) _
    rw [wp_ret]; iintro H; imodintro; iexact H
  | a :: l => by
    show iprop((Pre a ∗ sepL Pre l) ∗ C) ⊢ wp frame _ _ (step a >>= fun _ => seqL step l) _
    rw [wp_bind]
    iintro ⟨⟨Ha, Hl⟩, HC⟩
    iapply (wp_wand_r frame (wpE (defs₀ (F := F)) 𝒱₀ (thr d L) none) Set.univ)
    isplitl [Ha HC]
    · iapply (h a); isplitl [Ha]; · iexact Ha
      iexact HC
    · iintro %_ ⟨Ha, HC⟩
      iapply (wp_wand_r frame (wpE (defs₀ (F := F)) 𝒱₀ (thr d L) none) Set.univ)
      isplitl [Hl HC]
      · iapply (wp_seqL step Pre Post C h l); isplitl [Hl]; · iexact Hl
        iexact HC
      · iintro %_ ⟨Hl, HC⟩
        isplitl [Ha Hl]
        · iapply (show iprop(Post a ∗ sepL Post l) ⊢ sepL Post (a :: l) from .rfl)
          isplitl [Ha]; · iexact Ha
          iexact Hl
        · iexact HC

/-! ## One chunk's loop -/

section Loop
variable (s : Fin 8) (x : S4096.Idx → Elt F .f32) (nv : S8192.Idx → Elt F .f32)
variable (fi : Buf (Elt F) ((inCh s).view.loc (thr d L))) (fe : Buf (Elt F) ((outCh s).view.loc (thr d L)))

/-- Chunk `s` of the input scratch, holding `x`. -/
abbrev inPts : sProp 𝕄 := (inCh s).view.loc (thr d L) ↦[(inCh s).view.set]{fullShare} (inCh s).view.write (Elt F) fi x Finset.univ
/-- Chunk `s` of the output scratch, holding `y`. -/
abbrev outPts (y : S8192.Idx → Elt F .f32) : sProp 𝕄 :=
  (outCh s).view.loc (thr d L) ↦[(outCh s).view.set]{fullShare} (outCh s).view.write (Elt F) fe y Finset.univ

omit [FloatOps F] in
/-- A group's load reads inside the chunk. -/
theorem load_sub (t : Fin k0_t1_loop.trips) (u : Fin 8) :
    (iVm.access (Rect.unit (s := S32768) (grpOff s t u) S16.size (grpOff_inb s t u))).set ⊆ (inCh s).view.set := by
  have ht : t.val < 32 := t.isLt
  have hu := u.isLt
  intro i hi
  have hi' := (ValueKit.mem_set_slice_whole_iff cc0_scratch0 (Rect.unit (s := S32768) (grpOff s t u) S16.size (grpOff_inb s t u)) i Rect.mem_set_unit).mp hi 0
  rw [grpOff_eq] at hi'
  have h' : 4096 * s.val + 128 * t.val + 16 * u.val ≤ (i 0).val ∧ (i 0).val < 4096 * s.val + 128 * t.val + 16 * u.val + 16 := hi'
  refine (mem_inCh s i).mpr ?_
  omega

omit [FloatOps F] in
/-- What a group's load reads: sixteen words of `x`. -/
theorem load_val (t : Fin k0_t1_loop.trips) (u : Fin 8) (y : S16.Idx) (z : S4096.Idx) (hz : (z 0).val = 128 * t.val + 16 * u.val + (y 0).val) :
    (iVm.access (Rect.unit (s := S32768) (grpOff s t u) S16.size (grpOff_inb s t u))).read (Elt F) ((inCh s).view.write (Elt F) fi x Finset.univ) y = x z := by
  rw [View.read_apply]
  have e : (iVm.access (Rect.unit (s := S32768) (grpOff s t u) S16.size (grpOff_inb s t u))).emb y = (inCh s).view.emb z := by
    funext a
    apply Fin.ext
    have h1 := ValueKit.view_emb_slice_whole_unit_val cc0_scratch0 (grpOff s t u) S16.size (grpOff_inb s t u) y a
    have h2 := ValueKit.view_emb_slice_whole_unit_val cc0_scratch0 ![4096 * s.val] S4096.size (inb_in s) z a
    refine (h1.trans (congrArg (· + (y a).val) (congrFun (grpOff_eq s t u) a))).trans (Eq.trans ?_ h2.symm)
    match a with
    | 0 => show 4096 * s.val + 128 * t.val + 16 * u.val + (y 0).val = 4096 * s.val + (z 0).val; omega
  rw [e, View.write_emb_of_mem _ _ (Finset.mem_univ z)]
  rfl

/-- A group, operation by operation. -/
theorem grp_eq (t : Fin k0_t1_loop.trips) (u : Fin 8) : grp (F := F) L s t u
    = Prog.op (.load iVm (Rect.unit (s := S32768) (grpOff s t u) S16.size (grpOff_inb s t u)).toLoadRect (View.loadsAt_vmem h_S16)) fun w =>
      Prog.op (.assume (k0_chk1 (grpIdx s t u)) (k0_chk1.dec (grpIdx s t u))) fun hw =>
      SparseCore.vectorStoreIdx (outCh s) ![grpIdx s t u] w (fun _ => 1#1) false (k0_idx1_inb _ hw.down) (View.stores_vmem_bits_univ h_S8192 rfl) >>= fun _ => Prog.ret ⟨⟩ := rfl

/-- What a group's store leaves. -/
theorem grp_write (t : Fin k0_t1_loop.trips) (u : Fin 8) (h : ∀ a y, ((![grpIdx s t u] : Fin 1 → IVec S16 32) a y).toNat < S8192.size a) :
    (((outCh s).access (.whole S8192)).loc (thr d L) ↦[((outCh s).access (.whole S8192)).set]{fullShare}
      ((outCh s).access (.whole S8192)).write (Elt F) ((outCh s).view.write (Elt F) fe (mix x nv (128 * t.val + 16 * u.val)) Finset.univ)
        (storeIdx (F := F) (((outCh s).access (.whole S8192)).read (Elt F) ((outCh s).view.write (Elt F) fe (mix x nv (128 * t.val + 16 * u.val)) Finset.univ))
          ![grpIdx s t u]
          ((iVm.access (Rect.unit (s := S32768) (grpOff s t u) S16.size (grpOff_inb s t u))).read (Elt F) ((inCh s).view.write (Elt F) fi x Finset.univ))
          (fun _ => 1#1) false h) Finset.univ : sProp 𝕄)
      = outPts d L s fe (mix x nv (128 * t.val + 16 * u.val + 16)) := by
  rw [set_slice_all, write_slice_all, write_write_all, read_slice_all, View.read_write_univ]
  rw [storeIdx_mix x nv (128 * t.val + 16 * u.val) (grpIdx s t u) _ h (grpIdx_toNat s t u) (fun y z hz => load_val d L s x fi t u y z hz)]

/-- Group `u` of trip `t`: sixteen more words at their places. -/
theorem wp_grp (t : Fin k0_t1_loop.trips) (u : Fin 8) :
    iprop(inPts d L s x fi ∗ outPts d L s fe (mix x nv (128 * t.val + 16 * u.val)))
      ⊢ wpT d L (grp L s t u) fun _ => iprop(inPts d L s x fi ∗ outPts d L s fe (mix x nv (128 * t.val + 16 * u.val + 16))) := by
  unfold wpT
  rw [grp_eq]
  iintro ⟨Hi, Ho⟩
  iapply (wp_load_rect (defs := defs₀ (F := F)) 𝒱₀ (thr d L) none Set.univ (m := iVm) (load_sub s t u)) $$ Hi
  iintro Hi
  rw [wp_assume_of 𝒱₀ (thr d L) none Set.univ (grpIdx_chk s t u)]
  ihave Ho' := (Entails.of_eq (show outPts d L s fe (mix x nv (128 * t.val + 16 * u.val))
    = (((outCh s).access (.whole S8192)).loc (thr d L) ↦[((outCh s).access (.whole S8192)).set]{fullShare}
        (outCh s).view.write (Elt F) fe (mix x nv (128 * t.val + 16 * u.val)) Finset.univ : sProp 𝕄) by rw [set_slice_all])) $$ Ho
  iapply (SparseCore.wp_vectorStoreIdx (defs := defs₀ (F := F)) 𝒱₀ (thr d L) none Set.univ (base := outCh s)) $$ Ho'
  iintro Ho
  rw [wp_ret]
  imodintro
  isplitl [Hi]; · iexact Hi
  iapply (Entails.of_eq (grp_write d L s x nv fi fe t u (k0_idx1_inb _ (grpIdx_chk s t u))))
  iexact Ho

/-- A trip: eight groups. -/
theorem wp_trip (t : Fin k0_t1_loop.trips) :
    iprop(inPts d L s x fi ∗ outPts d L s fe (mix x nv (128 * t.val)))
      ⊢ wpT d L (trip L s t) fun _ => iprop(inPts d L s x fi ∗ outPts d L s fe (mix x nv (128 * (t.val + 1)))) := by
  have h := wp_chain d L (grp L s t) (fun n => iprop(inPts d L s x fi ∗ outPts d L s fe (mix x nv (128 * t.val + 16 * n)))) [0, 1, 2, 3, 4, 5, 6, 7] 0
    fun k u hk => by
      have e : u.val = k := by
        match k, hk with
        | 0, h => cases h; rfl
        | 1, h => cases h; rfl
        | 2, h => cases h; rfl
        | 3, h => cases h; rfl
        | 4, h => cases h; rfl
        | 5, h => cases h; rfl
        | 6, h => cases h; rfl
        | 7, h => cases h; rfl
      have h := wp_grp d L s x nv fi fe t u
      rw [e] at h
      rw [Nat.zero_add, show 128 * t.val + 16 * (k + 1) = 128 * t.val + 16 * k + 16 by omega]
      exact h
  rw [show 128 * (t.val + 1) = 128 * t.val + 16 * (0 + 8) by omega]
  exact h

/-- The loop: the fill becomes the fill with every input word at its place. -/
theorem wp_loop :
    iprop(inPts d L s x fi ∗ outPts d L s fe nv)
      ⊢ wpT d L (Scf.Loop.for k0_t1_loop k0_t1_ok PUnit.unit (fun t _ => trip L s t)) fun _ => iprop(inPts d L s x fi ∗ outPts d L s fe (mix x nv 4096)) := by
  have h := Scf.wp_for (M := 𝕄) frame (wpE (defs₀ (F := F)) 𝒱₀ (thr d L) none) Set.univ k0_t1_loop.lb k0_t1_loop.ub k0_t1_loop.st k0_t1_ok PUnit.unit
    (fun t _ => trip L s t) (fun n _ => iprop(inPts d L s x fi ∗ outPts d L s fe (mix x nv (128 * n)))) (fun t _ => wp_trip d L s x nv fi fe t)
    (Q := fun _ => iprop(inPts d L s x fi ∗ outPts d L s fe (mix x nv 4096)))
  have h0 : mix x nv (128 * 0) = nv := mix_zero x nv
  have hn : 128 * Scf.trips k0_t1_loop.lb k0_t1_loop.ub k0_t1_loop.st = 4096 := by decide
  rw [h0, hn] at h
  refine BI.Entails.trans ?_ h
  show _ ⊢ iprop((inPts d L s x fi ∗ outPts d L s fe nv) ∗ ∀ _ : PUnit, (inPts d L s x fi ∗ outPts d L s fe (mix x nv 4096))
    -∗ (inPts d L s x fi ∗ outPts d L s fe (mix x nv 4096)))
  iintro H
  isplitl [H]; · iexact H
  iintro %_ H
  iexact H

end Loop

end Cert.Proof.Ext

end
-- ==== Proof.Tile.lean ====
/-
  One task: its copies in, its eight chunks' loops and copies out, its last waits, with the value each chunk of the output
  ends at.
-/
module

public import proofs.«01_k».proof.Proof.Group

@[expose] public section

noncomputable section

namespace Cert.Proof.Ext

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

section Steps

variable (q : Fin 8 → PosShare TreeShare) (X : Buf (Elt F) (xHbm.view.loc (thr d L))) (NV : Buf (Elt F) (nHbm.view.loc (thr d L)))
variable (Y : Buf (Elt F) (oHbm.view.loc (thr d L)))
variable (fi : Buf (Elt F) (iVm.view.loc (thr d L))) (fe : Buf (Elt F) (oVm.view.loc (thr d L)))
variable (O : CellTallies nD τ sig (HIx 1)) (W : Waits sig (HIx 1))

/-! ## What the task holds, chunk by chunk -/

/-- Chunk `s`'s read share of the fill. -/
abbrev fillPts (s : Fin 8) : sProp 𝕄 := nHbm.view.loc (thr d L) ↦[nHbm.view.set]{q s} NV
/-- Chunk `s` of the input. -/
abbrev srcPts (s : Fin 8) : sProp 𝕄 := (srcCh L s).view.loc (thr d L) ↦[(srcCh L s).view.set]{fullShare} X
/-- Chunk `s` of the output, at its contents before. -/
abbrev dstPts (s : Fin 8) : sProp 𝕄 := (dstCh L s).view.loc (thr d L) ↦[(dstCh L s).view.set]{fullShare} Y
/-- The words chunk `s` reads. -/
abbrev xs (s : Fin 8) : S4096.Idx → Elt F .f32 := (srcCh L s).view.read (Elt F) X
/-- The fill. -/
abbrev nvs : S8192.Idx → Elt F .f32 := nHbm.view.read (Elt F) NV
/-- Chunk `s` of the output, at what the task leaves there. -/
abbrev resPts (s : Fin 8) : sProp 𝕄 := (dstCh L s).view.loc (thr d L) ↦[(dstCh L s).view.set]{fullShare}
  (dstCh L s).view.write (Elt F) Y (mix (xs d L X s) (nvs d L NV) 4096) Finset.univ

abbrev cell (sm : DmaSem sig) : sProp 𝕄 := semVal (thr d L, SemLoc.dma sm) 0

abbrev flFill (s : Fin 8) : sProp 𝕄 := Transfers.Flight countersEmb (thr d L) (.dma (semFill s)) (default : HIx 1) (outCh s).view.dmaCredit
  iprop(outPts d L s fe (nvs d L NV) ∗ fillPts d L q NV s)
abbrev flIn (s : Fin 8) : sProp 𝕄 := Transfers.Flight countersEmb (thr d L) (.dma (semIn s)) (default : HIx 1) (inCh s).view.dmaCredit
  iprop(inPts d L s (xs d L X s) fi ∗ srcPts d L X s)
abbrev flOut (s : Fin 8) : sProp 𝕄 := Transfers.Flight countersEmb (thr d L) (.dma (semOut s)) (default : HIx 1) (dstCh L s).view.dmaCredit
  iprop(resPts d L X NV Y s ∗ outPts d L s fe (mix (xs d L X s) (nvs d L NV) 4096))

/-- What every step keeps: the levels, and the waits made so far. -/
abbrev kept : sProp 𝕄 := iprop(levAts (K (F := F)).L (K (F := F)).lev ∗ ∃ W', ⌜∀ p ∈ W', p ∈ W ∨ p.2 = none⌝ ∗ owes (thr d L) O W')

/-- Chunk `s` of the input scratch and of the output scratch, at their contents before. -/
abbrev inPts₀ (s : Fin 8) : sProp 𝕄 := (inCh s).view.loc (thr d L) ↦[(inCh s).view.set]{fullShare} fi
abbrev outPts₀ (s : Fin 8) : sProp 𝕄 := (outCh s).view.loc (thr d L) ↦[(outCh s).view.set]{fullShare} fe

/-- A chunk's resources before its copies in; -/
abbrev res0 (s : Fin 8) : sProp 𝕄 := iprop(fillPts d L q NV s ∗ srcPts d L X s ∗ inPts₀ d L fi s ∗ outPts₀ d L fe s
  ∗ cell d L (semFill s) ∗ cell d L (semIn s) ∗ cell d L (semOut s) ∗ dstPts d L Y s)
/-- with the copies in under way; -/
abbrev res1 (s : Fin 8) : sProp 𝕄 := iprop(flFill d L q NV fe s ∗ flIn d L X fi s ∗ cell d L (semOut s) ∗ dstPts d L Y s)
/-- with the copy out under way; -/
abbrev res2 (s : Fin 8) : sProp 𝕄 := iprop((cell d L (semFill s) ∗ cell d L (semIn s) ∗ fillPts d L q NV s ∗ srcPts d L X s
  ∗ inPts d L s (xs d L X s) fi) ∗ flOut d L X NV Y fe s)
/-- and at the end. -/
abbrev res3 (s : Fin 8) : sProp 𝕄 := iprop((cell d L (semFill s) ∗ cell d L (semIn s) ∗ fillPts d L q NV s ∗ srcPts d L X s
  ∗ inPts d L s (xs d L X s) fi) ∗ resPts d L X NV Y s ∗ outPts d L s fe (mix (xs d L X s) (nvs d L NV) 4096) ∗ cell d L (semOut s))

/-! ## The steps -/

/-- Chunk `s`'s two copies in are issued. -/
theorem wp_start (s : Fin 8) :
    iprop(res0 d L q X NV Y fi fe s ∗ kept d L O W) ⊢ wpT d L (start L s) fun _ => iprop(res1 d L q X NV Y fi fe s ∗ kept d L O W) := by
  unfold wpT start
  iintro ⟨⟨Hn, Hx, Hi, Ho, Hcf, Hci, Hco, Hd⟩, HK⟩
  iapply (Transfers.wp_dmaLocal (defs := defs₀ (F := F)) countersEmb 𝒱₀ (thr d L) none (src := nHbm) (dst := outCh s) (default : HIx 1) (outCh s).view.dmaCredit rfl
    (View.dmaCredit_pos _ (by decide)) subset_rfl) $$ [Hn Ho Hcf]
  · isplitl [Hn]; · iexact Hn
    isplitl [Ho]; · iexact Ho
    iexact Hcf
  iintro Hff
  iapply (Transfers.wp_dmaLocal (defs := defs₀ (F := F)) countersEmb 𝒱₀ (thr d L) none (src := srcCh L s) (dst := inCh s) (default : HIx 1) (inCh s).view.dmaCredit rfl
    (View.dmaCredit_pos _ (by decide)) subset_rfl) $$ [Hx Hi Hci]
  · isplitl [Hx]; · iexact Hx
    isplitl [Hi]; · iexact Hi
    iexact Hci
  iintro Hfi
  rw [wp_ret]
  imodintro
  isplitr [HK]
  · isplitl [Hff]; · iexact Hff
    isplitl [Hfi]; · iexact Hfi
    isplitl [Hco]; · iexact Hco
    iexact Hd
  iexact HK

/-- A chunk's work, operation by operation. -/
theorem work_eq (s : Fin 8) : work (F := F) L s
    = Prog.op (.waitDma2 (semFill s) nHbm (outCh s) (Memref.isWhole_whole _).wordExact (View.wordExact_bits rfl)) fun _ =>
      Prog.op (.waitDma2 (semIn s) (srcCh L s) (inCh s) (View.wordExact_bits rfl) (View.wordExact_bits rfl)) fun _ =>
      (Scf.Loop.for k0_t1_loop k0_t1_ok PUnit.unit (fun t _ => trip L s t)) >>= fun _ =>
      Prog.op (.enqueueDmaAs (outCh s) (.here (dstCh L s)) .same (.dma (semOut s)) (View.wordExact_bits rfl) (View.wordExact_bits rfl) ⟨Or.inl rfl, trivial⟩) Prog.ret := rfl

omit [FloatOps F] in
/-- The copy out carries what the chunk of the output scratch reads as. -/
theorem flOut_eq (s : Fin 8) :
    (Transfers.Flight countersEmb (thr d L) (.dma (semOut s)) (default : HIx 1) (dstCh L s).view.dmaCredit
      iprop(((dstCh L s).view.loc (thr d L) ↦[(dstCh L s).view.set]{fullShare} (dstCh L s).view.write (Elt F) Y
          ((outCh s).view.read (Elt F) ((outCh s).view.write (Elt F) fe (mix (xs d L X s) (nvs d L NV) 4096) Finset.univ)) Finset.univ)
        ∗ outPts d L s fe (mix (xs d L X s) (nvs d L NV) 4096)) : sProp 𝕄)
      = flOut d L X NV Y fe s := by
  rw [View.read_write_univ]

/-- Chunk `s`'s two copies in are awaited, its loop runs, its copy out is issued. -/
theorem wp_work (hO : ∀ g, O g none = 0) (s : Fin 8) :
    iprop(res1 d L q X NV Y fi fe s ∗ kept d L O W) ⊢ wpT d L (work L s) fun _ => iprop(res2 d L q X NV Y fi fe s ∗ kept d L O W) := by
  unfold wpT
  rw [work_eq]
  iintro ⟨⟨Hff, Hfi, Hco, Hd⟩, #Hlv, %W₁, %hW₁, HO⟩
  ihave Hmw := (show levAts (K (F := F)).L (K (F := F)).lev ⊢ Transfers.MayWaits (thr d L) (default : HIx 1) O from
    (K (F := F)).mayWaits_none (thr := thr d L) hO) $$ Hlv
  iapply (Transfers.wp_waitLocalO (defs := defs₀ (F := F)) countersEmb 𝒱₀ (thr d L) none (default : HIx 1) rfl) $$ [Hff HO]
  · isplitl [Hff]; · iexact Hff
    isplitl [HO]; · iexact HO
    iapply (Transfers.MayWaits.elim (SemLoc.dma (semFill s))) $$ Hmw
  iintro ⟨⟨Ho, Hn⟩, Hcf, HO⟩
  iapply (Transfers.wp_waitLocalO (defs := defs₀ (F := F)) countersEmb 𝒱₀ (thr d L) none (default : HIx 1) rfl) $$ [Hfi HO]
  · isplitl [Hfi]; · iexact Hfi
    isplitl [HO]; · iexact HO
    iapply (Transfers.MayWaits.elim (SemLoc.dma (semIn s))) $$ Hmw
  iintro ⟨⟨Hi, Hx⟩, Hci, HO⟩
  rw [wp_bind]
  iapply (wp_wand_r frame (wpE (defs₀ (F := F)) 𝒱₀ (thr d L) none) Set.univ)
  isplitl [Hi Ho]
  · iapply (wp_loop d L s (xs d L X s) (nvs d L NV) fi fe)
    isplitl [Hi]; · iexact Hi
    iexact Ho
  iintro %_ ⟨Hi, Ho⟩
  iapply (Transfers.wp_dmaLocal (defs := defs₀ (F := F)) countersEmb 𝒱₀ (thr d L) none (src := outCh s) (dst := dstCh L s) (default : HIx 1) (dstCh L s).view.dmaCredit rfl
    (View.dmaCredit_pos _ (by decide)) subset_rfl) $$ [Ho Hd Hco]
  · isplitl [Ho]; · iexact Ho
    isplitl [Hd]; · iexact Hd
    iexact Hco
  iintro Hfo
  rw [wp_ret]
  imodintro
  ihave Hfo' := (Entails.of_eq (flOut_eq d L X NV Y fe s)) $$ Hfo
  isplitr [HO]
  · isplitr [Hfo']
    · isplitl [Hcf]; · iexact Hcf
      isplitl [Hci]; · iexact Hci
      isplitl [Hn]; · iexact Hn
      isplitl [Hx]; · iexact Hx
      iexact Hi
    iexact Hfo'
  isplitr; · iexact Hlv
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW₁ p hp

/-- Chunk `s`'s copy out is awaited. -/
theorem wp_drain (hO : ∀ g, O g none = 0) (s : Fin 8) :
    iprop(res2 d L q X NV Y fi fe s ∗ kept d L O W) ⊢ wpT d L (drain L s) fun _ => iprop(res3 d L q X NV Y fi fe s ∗ kept d L O W) := by
  unfold wpT drain
  iintro ⟨⟨HE, Hf⟩, #Hlv, %W₁, %hW₁, HO⟩
  ihave Hmw := (show levAts (K (F := F)).L (K (F := F)).lev ⊢ Transfers.MayWaits (thr d L) (default : HIx 1) O from
    (K (F := F)).mayWaits_none (thr := thr d L) hO) $$ Hlv
  iapply (Transfers.wp_waitLocalO (defs := defs₀ (F := F)) countersEmb 𝒱₀ (thr d L) none (default : HIx 1) rfl) $$ [Hf HO]
  · isplitl [Hf]; · iexact Hf
    isplitl [HO]; · iexact HO
    iapply (Transfers.MayWaits.elim (SemLoc.dma (semOut s))) $$ Hmw
  iintro ⟨⟨Hr, Ho⟩, Hc, HO⟩
  rw [wp_ret]
  imodintro
  isplitr [HO]
  · isplitl [HE]; · iexact HE
    isplitl [Hr]; · iexact Hr
    isplitl [Ho]; · iexact Ho
    iexact Hc
  isplitr; · iexact Hlv
  iexists _; isplitr
  swap; · iexact HO
  ipureintro; intro p hp
  rcases Finset.mem_insert.mp hp with hp | hp
  · exact .inr (hp ▸ rfl)
  · exact hW₁ p hp

/-- The whole task, over its chunks' resources. -/
theorem wp_tileProg (hO : ∀ g, O g none = 0) :
    iprop((bigSep Finset.univ fun s => res0 d L q X NV Y fi fe s) ∗ kept d L O W)
      ⊢ wpT d L (tileProg L) fun _ => iprop((bigSep Finset.univ fun s => res3 d L q X NV Y fi fe s) ∗ kept d L O W) := by
  have hc : ∀ Φ : Fin 8 → sProp 𝕄, sepL Φ chunks = bigSep Finset.univ Φ := fun Φ =>
    (sepL_eq Φ chunks (by decide)).trans (congrArg (fun S => bigSep S Φ) (by decide))
  have h1 := wp_seqL d L (start L) (res0 d L q X NV Y fi fe) _ (kept d L O W) (wp_start d L q X NV Y fi fe O W) chunks
  have h2 := wp_seqL d L (work L) (res1 d L q X NV Y fi fe) _ (kept d L O W) (wp_work d L q X NV Y fi fe O W hO) chunks
  have h3 := wp_seqL d L (drain L) (res2 d L q X NV Y fi fe) _ (kept d L O W) (wp_drain d L q X NV Y fi fe O W hO) chunks
  rw [hc] at h1 h3
  show _ ⊢ wp frame _ _ (seqL (start L) chunks >>= fun _ => seqL (work L) chunks >>= fun _ => seqL (drain L) chunks) _
  rw [wp_bind]
  refine h1.trans (wp_mono frame _ _ fun _ => ?_)
  rw [wp_bind]
  exact h2.trans (wp_mono frame _ _ fun _ => h3)

end Steps

end Cert.Proof.Ext

end
-- ==== Proof.Body.lean ====
/-
  The task from what the launch hands it — its scratch, its cells, its chunks of the three arrays — to what it hands back:
  the chunks of the output at the contents `G`.
-/
module

public import proofs.«01_k».proof.Proof.Tile

@[expose] public section

noncomputable section

namespace Cert.Proof.Ext

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## The task's cells -/

/-- The task's cells: the fills', the copies' in, the copies' out. -/
def semAll : Fin 8 ⊕ Fin 8 ⊕ Fin 8 → DmaSem sig := Sum.elim semFill (Sum.elim semIn semOut)

theorem semAll_injective : Function.Injective semAll := by decide +kernel
theorem semAll_scoped : ∀ a, (SemLoc.dma (semAll a) : SemLoc sig).isScoped .scVector = true := by decide +kernel

/-- as cells of the task's subcore. -/
def cells : (Fin 8 ⊕ Fin 8 ⊕ Fin 8) ↪ GSem nD τ sig :=
  ⟨fun a => (thr d L, SemLoc.dma (semAll a)), fun a b h => semAll_injective (by injection h with _ h; injection h)⟩

omit [FloatOps F] in
/-- The subcore's own cells are the task's and the rest. -/
theorem ownSems0_cells : (ownSems0 (thr d L) : sProp 𝕄)
    = iprop(((bigSep Finset.univ fun s => cell d L (semFill s)) ∗ (bigSep Finset.univ fun s => cell d L (semIn s)) ∗ bigSep Finset.univ fun s => cell d L (semOut s))
        ∗ bigSep (ownCells (thr d L) \ Finset.univ.map (cells d L)) fun g => semVal g 0) := by
  unfold SparseCore.Cfg.ownSems0
  refine (bigSep_sdiff_split (t := Finset.univ.map (cells d L)) ?_).trans ?_
  · intro g hg
    obtain ⟨a, -, rfl⟩ := Finset.mem_map.mp hg
    exact mem_ownCells.mpr ⟨rfl, semAll_scoped a⟩
  · rw [bigSep_map, bigSep_univ_sum, bigSep_univ_sum]; rfl

/-! ## The task's scratch -/

theorem mem_outCh (s : Fin 8) (i : S65536.Idx) : i ∈ (outCh s).view.set ↔ 8192 * s.val ≤ (i 0).val ∧ (i 0).val < 8192 * s.val + 8192 := by
  refine (ValueKit.mem_set_slice_whole_iff cc0_scratch1 (Rect.unit (s := S65536) ![8192 * s.val] S8192.size (inb_out s)) i Rect.mem_set_unit).trans ?_
  exact ⟨fun h => h 0, fun h a => match a with | 0 => h⟩

/-- The chunks of a scratch are disjoint and cover it. -/
theorem inCh_disjoint : ∀ s ∈ (Finset.univ : Finset (Fin 8)), ∀ s' ∈ (Finset.univ : Finset (Fin 8)), s ≠ s' → Disjoint (inCh s).view.set (inCh s').view.set :=
  fun s _ s' _ h => Finset.disjoint_left.mpr fun i hi hi' => h (Fin.ext (by have := (mem_inCh s i).mp hi; have := (mem_inCh s' i).mp hi'; omega))
theorem outCh_disjoint : ∀ s ∈ (Finset.univ : Finset (Fin 8)), ∀ s' ∈ (Finset.univ : Finset (Fin 8)), s ≠ s' → Disjoint (outCh s).view.set (outCh s').view.set :=
  fun s _ s' _ h => Finset.disjoint_left.mpr fun i hi hi' => h (Fin.ext (by have := (mem_outCh s i).mp hi; have := (mem_outCh s' i).mp hi'; omega))
theorem inCh_cover : (Finset.univ : Finset (Fin 8)).biUnion (fun s => (inCh s).view.set) = (Finset.univ : Finset S32768.Idx) :=
  Finset.eq_univ_iff_forall.mpr fun i => by
    have h : (i 0).val < 32768 := (i 0).isLt
    let s : Fin 8 := ⟨(i 0).val / 4096, by omega⟩
    have hs : s.val = (i 0).val / 4096 := rfl
    exact Finset.mem_biUnion.mpr ⟨s, Finset.mem_univ _, (mem_inCh s i).mpr (by omega)⟩
theorem outCh_cover : (Finset.univ : Finset (Fin 8)).biUnion (fun s => (outCh s).view.set) = (Finset.univ : Finset S65536.Idx) :=
  Finset.eq_univ_iff_forall.mpr fun i => by
    have h : (i 0).val < 65536 := (i 0).isLt
    let s : Fin 8 := ⟨(i 0).val / 8192, by omega⟩
    have hs : s.val = (i 0).val / 8192 := rfl
    exact Finset.mem_biUnion.mpr ⟨s, Finset.mem_univ _, (mem_outCh s i).mpr (by omega)⟩

omit [FloatOps F] in
theorem in_split (fi : Buf (Elt F) (iVm.view.loc (thr d L))) :
    ((thr d L).loc cc0_scratch0 ↦{fullShare} fi : sProp 𝕄) = bigSep Finset.univ fun s => inPts₀ d L fi s := by
  rw [← pointsTo_biUnion Finset.univ (ℓ := (thr d L).loc cc0_scratch0) (fun s => (inCh s).view.set) inCh_disjoint, inCh_cover]
omit [FloatOps F] in
theorem out_split (fe : Buf (Elt F) (oVm.view.loc (thr d L))) :
    ((thr d L).loc cc0_scratch1 ↦{fullShare} fe : sProp 𝕄) = bigSep Finset.univ fun s => outPts₀ d L fe s := by
  rw [← pointsTo_biUnion Finset.univ (ℓ := (thr d L).loc cc0_scratch1) (fun s => (outCh s).view.set) outCh_disjoint, outCh_cover]
omit [FloatOps F] in
theorem in_join (fi : Buf (Elt F) (iVm.view.loc (thr d L))) (g : Fin 8 → Buf (Elt F) (iVm.view.loc (thr d L))) :
    (bigSep Finset.univ fun s => (inPts₀ d L (g s) s : sProp 𝕄)) ⊢ iprop(∃ f, (thr d L).loc cc0_scratch0 ↦{fullShare} f) := by
  iintro H
  ihave H' := (pointsTo_biUnion_join (ℓ := (thr d L).loc cc0_scratch0) (q := fullShare) (Val := Elt F) Finset.univ (fun s => (inCh s).view.set) g fi inCh_disjoint) $$ H
  icases H' with ⟨%f, -, Hf⟩
  rw [inCh_cover]
  iexists f; iexact Hf
omit [FloatOps F] in
theorem out_join (fe : Buf (Elt F) (oVm.view.loc (thr d L))) (g : Fin 8 → Buf (Elt F) (oVm.view.loc (thr d L))) :
    (bigSep Finset.univ fun s => (outPts₀ d L (g s) s : sProp 𝕄)) ⊢ iprop(∃ f, (thr d L).loc cc0_scratch1 ↦{fullShare} f) := by
  iintro H
  ihave H' := (pointsTo_biUnion_join (ℓ := (thr d L).loc cc0_scratch1) (q := fullShare) (Val := Elt F) Finset.univ (fun s => (outCh s).view.set) g fe outCh_disjoint) $$ H
  icases H' with ⟨%f, -, Hf⟩
  rw [outCh_cover]
  iexists f; iexact Hf

omit [FloatOps F] in
/-- The two scratch buffers are among the subcore's own. -/
theorem ownBufs_scratch :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

section Run

variable (q : Fin 8 → PosShare TreeShare) (X : Buf (Elt F) (xHbm.view.loc (thr d L))) (NV : Buf (Elt F) (nHbm.view.loc (thr d L)))
variable (Y G : Buf (Elt F) (oHbm.view.loc (thr d L)))
variable (O : CellTallies nD τ sig (HIx 1)) (W : Waits sig (HIx 1))

/-- What the launch hands a task, the output at `G`: chunk by chunk. -/
abbrev taskPts : sProp 𝕄 := iprop((bigSep Finset.univ fun s => fillPts d L q NV s) ∗ (bigSep Finset.univ fun s => srcPts d L X s)
  ∗ bigSep Finset.univ fun s => dstPts d L G s)

omit [FloatOps F] in
/-- A chunk of the output at what the task leaves is the chunk at `G`. -/
theorem resPts_eq (s : Fin 8) (hG : ∀ y : S8192.Idx, (dstCh L s).view.read (Elt F) G y = mix (xs d L X s) (nvs d L NV) 4096 y) :
    (resPts d L X NV Y s : sProp 𝕄) = dstPts d L G s := by
  refine pointsTo_congr fun i hi => ?_
  obtain ⟨y, -, rfl⟩ := Finset.mem_map.mp hi
  rw [View.write_emb_of_mem _ _ (Finset.mem_univ y), ← hG y, View.read_apply]
  rfl

theorem tile_body (hF : (K (F := F)).Facts) (hO : ∀ g, O g none = 0)
    (hG : ∀ (s : Fin 8) (y : S8192.Idx), (dstCh L s).view.read (Elt F) G y = mix (xs d L X s) (nvs d L NV) 4096 y) :
    iprop(levAts (K (F := F)).L (K (F := F)).lev ∗ emp ∗ taskPts d L q X NV Y ∗ scopedBufs (thr d L) ∗ scopedSems0 (thr d L) ∗ owes (thr d L) O W)
      ⊢ wpT d L (tileBody F L) fun _ => iprop(taskPts d L q X NV G ∗ scopedBufs (thr d L) ∗ scopedSems0 (thr d L)
          ∗ ∃ W', ⌜∀ p ∈ W', p ∈ W ∨ p.2 = none⌝ ∗ owes (thr d L) O W') := by
  unfold wpT
  rw [tileBody_eq, (K (F := F)).scopedBufs_V hF d (cV L) (jV L), SparseCore.Cfg.scopedSems0_V (Val := Elt F) d (cV L) (jV L), ownSems0_cells, ownBufs_scratch]
  iintro ⟨#Hlv, -, ⟨Hn, Hx, Hd⟩, ⟨⟨%fi, Hi⟩, ⟨%fe, Ho⟩, Hbufs⟩, ⟨⟨Hcf, Hci, Hco⟩, Hsems⟩, HO⟩
  ihave Hi := (Entails.of_eq (in_split d L fi)) $$ Hi
  ihave Ho := (Entails.of_eq (out_split d L fe)) $$ Ho
  have key := wp_tileProg d L q X NV Y fi fe O W hO
  simp only [bigSep_sep'] at key
  iapply (wp_wand_r frame (wpE (defs₀ (F := F)) 𝒱₀ (thr d L) none) Set.univ)
  isplitr [Hbufs Hsems]
  · iapply key
    isplitr [HO]
    · isplitl [Hn]; · iexact Hn
      isplitl [Hx]; · iexact Hx
      isplitl [Hi]; · iexact Hi
      isplitl [Ho]; · iexact Ho
      isplitl [Hcf]; · iexact Hcf
      isplitl [Hci]; · iexact Hci
      isplitl [Hco]; · iexact Hco
      iexact Hd
    isplitr; · iexact Hlv
    iexists W; isplitr
    · ipureintro; exact fun p hp => .inl hp
    iexact HO
  iintro %_ ⟨⟨⟨Hcf, Hci, Hn, Hx, Hi⟩, Hr, Ho, Hco⟩, -, HO⟩
  ihave Hr' := (Entails.of_eq (bigSep_congr fun s _ => resPts_eq d L X NV Y G s (hG s))) $$ Hr
  isplitl [Hn Hx Hr']
  · isplitl [Hn]; · iexact Hn
    isplitl [Hx]; · iexact Hx
    iexact Hr'
  isplitl [Hi Ho Hbufs]
  · isplitl [Hi]; · iapply (in_join d L fi _); iexact Hi
    isplitl [Ho]; · iapply (out_join d L fe _); iexact Ho
    iexact Hbufs
  isplitl [Hcf Hci Hco Hsems]
  · isplitr [Hsems]
    · isplitl [Hcf]; · iexact Hcf
      isplitl [Hci]; · iexact Hci
      iexact Hco
    iexact Hsems
  iexact HO

end Run

end Cert.Proof.Ext

end
-- ==== Proof.Launch.lean ====
/-
  The launch: what the two SparseCores and their tiles are handed and hand back, @main around the call, and the run of the
  whole program with its result's contents.
-/
module

public import proofs.«01_k».proof.Proof.Body

@[expose] public section

noncomputable section

namespace Cert.Proof.Ext

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

/-! ## The 256 chunks of the arrays, by number -/

/-- Chunk `s` of the task on SparseCore `c`, tile `i`, has number `16 i + 8 c + s`. -/
def num : Fin 2 × Fin 16 × Fin 8 ≃ Fin 256 where
  toFun a := ⟨16 * a.2.1.val + 8 * a.1.val + a.2.2.val, by have := a.1.isLt; have := a.2.1.isLt; have := a.2.2.isLt; omega⟩
  invFun k := (⟨k.val / 8 % 2, by omega⟩, ⟨k.val / 16, by omega⟩, ⟨k.val % 8, by omega⟩)
  left_inv := fun ⟨c, i, s⟩ => by
    have := c.isLt; have := i.isLt; have := s.isLt
    refine Prod.ext (Fin.ext ?_) (Prod.ext (Fin.ext ?_) (Fin.ext ?_))
    · show (16 * i.val + 8 * c.val + s.val) / 8 % 2 = c.val; omega
    · show (16 * i.val + 8 * c.val + s.val) / 16 = i.val; omega
    · show (16 * i.val + 8 * c.val + s.val) % 8 = s.val; omega
  right_inv k := Fin.ext (by show 16 * (k.val / 16) + 8 * (k.val / 8 % 2) + k.val % 8 = k.val; omega)

theorem bigSep_num (Φ : Fin 256 → sProp 𝕄) : bigSep Finset.univ Φ
    = bigSep Finset.univ fun c : Fin 2 => bigSep Finset.univ fun i : Fin 16 => bigSep Finset.univ fun s : Fin 8 => Φ (num (c, i, s)) := by
  rw [bigSep_univ_equiv num Φ, bigSep_univ_prod]
  exact bigSep_congr fun c _ => bigSep_univ_prod _

/-- The elements of chunk `k` of the input and of the output. -/
def xSet (k : Fin 256) : Finset S1048576.Idx := Finset.univ.filter fun j => 4096 * k.val ≤ (j 0).val ∧ (j 0).val < 4096 * k.val + 4096
def oSet (k : Fin 256) : Finset S2097152.Idx := Finset.univ.filter fun j => 8192 * k.val ≤ (j 0).val ∧ (j 0).val < 8192 * k.val + 8192

theorem mem_xSet {k : Fin 256} {j : S1048576.Idx} : j ∈ xSet k ↔ 4096 * k.val ≤ (j 0).val ∧ (j 0).val < 4096 * k.val + 4096 := by simp [xSet]
theorem mem_oSet {k : Fin 256} {j : S2097152.Idx} : j ∈ oSet k ↔ 8192 * k.val ≤ (j 0).val ∧ (j 0).val < 8192 * k.val + 8192 := by simp [oSet]

theorem xSet_disjoint : ∀ k ∈ (Finset.univ : Finset (Fin 256)), ∀ k' ∈ (Finset.univ : Finset (Fin 256)), k ≠ k' → Disjoint (xSet k) (xSet k') :=
  fun k _ k' _ h => Finset.disjoint_left.mpr fun i hi hi' => h (Fin.ext (by have := mem_xSet.mp hi; have := mem_xSet.mp hi'; omega))
theorem oSet_disjoint : ∀ k ∈ (Finset.univ : Finset (Fin 256)), ∀ k' ∈ (Finset.univ : Finset (Fin 256)), k ≠ k' → Disjoint (oSet k) (oSet k') :=
  fun k _ k' _ h => Finset.disjoint_left.mpr fun i hi hi' => h (Fin.ext (by have := mem_oSet.mp hi; have := mem_oSet.mp hi'; omega))
theorem xSet_cover : (Finset.univ : Finset (Fin 256)).biUnion xSet = Finset.univ :=
  Finset.eq_univ_iff_forall.mpr fun i => by
    have h : (i 0).val < 1048576 := (i 0).isLt
    let k : Fin 256 := ⟨(i 0).val / 4096, by omega⟩
    have hk : k.val = (i 0).val / 4096 := rfl
    exact Finset.mem_biUnion.mpr ⟨k, Finset.mem_univ _, mem_xSet.mpr (by omega)⟩
theorem oSet_cover : (Finset.univ : Finset (Fin 256)).biUnion oSet = Finset.univ :=
  Finset.eq_univ_iff_forall.mpr fun i => by
    have h : (i 0).val < 2097152 := (i 0).isLt
    let k : Fin 256 := ⟨(i 0).val / 8192, by omega⟩
    have hk : k.val = (i 0).val / 8192 := rfl
    exact Finset.mem_biUnion.mpr ⟨k, Finset.mem_univ _, mem_oSet.mpr (by omega)⟩

/-! ## The tasks' slices are those chunks -/

def coordsV (c : Fin (grid0.bound 0)) (s : Fin (grid0.bound 1)) : grid0.Coords :=
  fun | 0 => c | 1 => s | ⟨_ + 2, h⟩ => absurd h (Nat.not_lt.2 (Nat.le_add_left _ _))

/-- The number of a task's chunk. -/
abbrev kOf (L : grid0.Coords) (s : Fin 8) : Fin 256 := num (L 0, L 1, s)

theorem kOf_val (L : grid0.Coords) (s : Fin 8) : (kOf L s).val = 16 * (L 1).val + 8 * (L 0).val + s.val := rfl

theorem srcOff (L : grid0.Coords) (s : Fin 8) : k0_off1 L (BitVec.ofNat 32 (4096 * s.val)) 0 = 4096 * (kOf L s).val := by
  rw [k0_off1_eq, kOf_val]
  show 65536 * (L 1).val + 32768 * (L 0).val + 4096 * s.val = _
  omega
theorem dstOff (L : grid0.Coords) (s : Fin 8) : k0_off10 L (BitVec.ofNat 32 (8192 * s.val)) 0 = 8192 * (kOf L s).val := by
  rw [k0_off10_eq, kOf_val]
  show 131072 * (L 1).val + 65536 * (L 0).val + 8192 * s.val = _
  omega

theorem set_srcCh (L : grid0.Coords) (s : Fin 8) : (srcCh L s).view.set = xSet (kOf L s) := by
  ext j
  refine (ValueKit.mem_set_slice_whole_iff main_v1_scv (Rect.unit (s := S1048576) (k0_off1 L (BitVec.ofNat 32 (4096 * s.val))) S4096.size (k0_off1_inb L s)) j
    Rect.mem_set_unit).trans (Iff.trans ?_ mem_xSet.symm)
  rw [← srcOff]
  exact ⟨fun h => h 0, fun h a => match a with | 0 => h⟩
theorem set_dstCh (L : grid0.Coords) (s : Fin 8) : (dstCh L s).view.set = oSet (kOf L s) := by
  ext j
  refine (ValueKit.mem_set_slice_whole_iff main_v2_scv (Rect.unit (s := S2097152) (k0_off10 L (BitVec.ofNat 32 (8192 * s.val))) S8192.size (k0_off10_inb L s)) j
    Rect.mem_set_unit).trans (Iff.trans ?_ mem_oSet.symm)
  rw [← dstOff]
  exact ⟨fun h => h 0, fun h a => match a with | 0 => h⟩

/-! ## The output -/

/-- Half a position of the output; a position modulo the fill's length. -/
def halfPos (j : S2097152.Idx) : S1048576.Idx := fun a => match a with
  | 0 => ⟨(j 0).val / 2, by have h : (j 0).val < 2097152 := (j 0).isLt; show (j 0).val / 2 < 1048576; omega⟩
def fillPos (j : S2097152.Idx) : S8192.Idx := fun a => match a with
  | 0 => ⟨(j 0).val % 8192, by show (j 0).val % 8192 < 8192; omega⟩

/-- What the call leaves in its output: the input at the odd positions, the fill at the even ones. -/
def outVal {α : Type} (X : S1048576.Idx → α) (NV : S8192.Idx → α) : S2097152.Idx → α := fun j =>
  if (j 0).val % 2 = 1 then X (halfPos j) else NV (fillPos j)

/-- A chunk of it is what the task computes. -/
theorem outVal_chunk (L : grid0.Coords) (s : Fin 8) (X : S1048576.Idx → Elt F .f32) (NV : S8192.Idx → Elt F .f32) (y : S8192.Idx) :
    (dstCh L s).view.read (Elt F) (outVal X NV) y = mix ((srcCh L s).view.read (Elt F) X) (nHbm.view.read (Elt F) NV) 4096 y := by
  have hy : (y 0).val < 8192 := (y 0).isLt
  have e0 : (((dstCh L s).view.emb y : S2097152.Idx) 0).val = 8192 * (kOf L s).val + (y 0).val :=
    (ValueKit.view_emb_slice_whole_unit_val main_v2_scv (k0_off10 L (BitVec.ofNat 32 (8192 * s.val))) S8192.size (k0_off10_inb L s) y 0).trans
      (congrArg (· + (y 0).val) (dstOff L s))
  have e1 : (((srcCh L s).view.emb (half y) : S1048576.Idx) 0).val = 4096 * (kOf L s).val + (y 0).val / 2 :=
    (ValueKit.view_emb_slice_whole_unit_val main_v1_scv (k0_off1 L (BitVec.ofNat 32 (4096 * s.val))) S4096.size (k0_off1_inb L s) (half y) 0).trans
      (congrArg (· + (y 0).val / 2) (srcOff L s))
  rw [View.read_apply]
  show outVal X NV ((dstCh L s).view.emb y) = _
  unfold outVal mix
  rw [e0]
  by_cases h : (y 0).val % 2 = 1
  · rw [if_pos (by omega), if_pos ⟨h, by omega⟩, View.read_apply]
    show X _ = X _
    congr 1
    funext a
    match a with
    | 0 => exact Fin.ext (by show (((dstCh L s).view.emb y : S2097152.Idx) 0).val / 2 = _; rw [e0, e1]; omega)
  · rw [if_neg (by omega), if_neg fun h' => h h'.1]
    show NV _ = NV _
    congr 1
    funext a
    match a with
    | 0 => exact Fin.ext (by show (((dstCh L s).view.emb y : S2097152.Idx) 0).val % 8192 = (y 0).val; rw [e0]; omega)

/-! ## The launch's data -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb (URounds (GSem nD τ sig) ℕ) (MT nD τ sig (HIx 1) (Elt F) ℕ UU ℕ) := embL

abbrev aLoc (d : Dev nD) : Loc nD τ sig := (SparseCore.T d).loc main_arg0
abbrev cLoc (d : Dev nD) : Loc nD τ sig := (SparseCore.T d).loc main_cst
abbrev nLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

abbrev a' : DevRef τ sig := Proc.devRef .tc (main_arg0 : Ref sig .tc)
abbrev c' : DevRef τ sig := Proc.devRef .tc (main_cst : Ref sig .tc)
abbrev n' : DevRef τ sig := Proc.devRef .tc (main_v0 : Ref sig .tc)
abbrev x' : DevRef τ sig := Proc.devRef .tc (main_v1 : Ref sig .tc)
abbrev o' : DevRef τ sig := Proc.devRef .tc (main_v2 : Ref sig .tc)
abbrev r' : DevRef τ sig := Proc.devRef .tc (main_v3 : Ref sig .tc)

variable [FloatOps F]

/-- @main's operations beside the call. -/
abbrev opCst : HloOp τ sig (Elt F) := StableHlo.nullary main_cst (constant S_ .f32 0x7FC00000#32)
abbrev opFill : HloOp τ sig (Elt F) := StableHlo.unary main_cst main_v0
  (broadcastInDim S8192 ![] bcast_S_S8192 : (⟨S_, .f32⟩ : BufTy).Contents (Elt F) → (⟨S8192, .f32⟩ : BufTy).Contents (Elt F))
abbrev opIn : HloOp τ sig (Elt F) := StableHlo.reshape main_arg0 main_v1 (rfl : (.f32 : EltTy) = .f32) shapeCasts_S8192x128_S1048576
abbrev opOut : HloOp τ sig (Elt F) := StableHlo.reshape main_v2 main_v3 (rfl : (.f32 : EltTy) = .f32) shapeCasts_S2097152_S16384x128

variable (m : (ℓ : Loc nD τ sig) → Buf (Elt F) ℓ) (ρ : Dev nD → PrngReg)

/-- The arrays at launch, and before the call. -/
def V0 (d : Dev nD) : Valuation τ sig (Elt F) := fun b => m (d, b)
def V3 (d : Dev nD) : Valuation τ sig (Elt F) := (opIn (F := F)).result ((opFill (F := F)).result ((opCst (F := F)).result (V0 m d)))

/-- The call's input, its fill, and the output it leaves. -/
def Xv (d : Dev nD) : S1048576.Idx → Elt F .f32 := V3 m d x'
def NVv (d : Dev nD) : S8192.Idx → Elt F .f32 := V3 m d n'
def Yv (d : Dev nD) : S2097152.Idx → Elt F .f32 := V3 m d o'
def Gv (d : Dev nD) : S2097152.Idx → Elt F .f32 := outVal (Xv m d) (NVv m d)

/-- The arrays after the call, and the result. -/
def V4 (d : Dev nD) : Valuation τ sig (Elt F) := Function.update (V3 m d) o' (Gv m d)
def Rv (d : Dev nD) : Buf (Elt F) (rLoc d) := (opOut (F := F)).result (V4 m d) r'

/-! ## What the handshakes carry -/

/-- Read shares of the fill, one per chunk. -/
abbrev qs (L : grid0.Coords) (s : Fin 8) : PosShare TreeShare := Transfers.dealOf fullShare (Finset.univ : Finset (Fin 256)) (kOf L s)

/-- The coordinates of tile `i` of SparseCore `c`. -/
abbrev LL (c : Fin ((K (F := F)).nCore 0)) (i : Fin ((K (F := F)).nSub 0)) : grid0.Coords := coordsV ⟨c.val, c.isLt⟩ ⟨i.val, i.isLt⟩

/-- What a task holds, its part of the output at `f`. -/
def task (d : Dev nD) (L : grid0.Coords) (f : S2097152.Idx → Elt F .f32) : sProp 𝕄 := taskPts d L (qs L) (Xv m d) (NVv m d) f

/-- What the tasks of SparseCore `c` hold. -/
def tasks (d : Dev nD) (c : Fin ((K (F := F)).nCore 0)) (f : S2097152.Idx → Elt F .f32) : sProp 𝕄 :=
  bigSep Finset.univ fun i : Fin ((K (F := F)).nSub 0) => task m d (LL c i) f

def P : (K (F := F)).Pay (nD := nD) (Val := Elt F) (Name := ℕ) (U := UU) where
  st := fun q d c => match q with | 0 => tasks m d c (Yv m d)
  dn := fun q d c => match q with | 0 => tasks m d c (Gv m d)
  go := fun q d c i => match q with | 0 => task m d (LL c i) (Yv m d)
  td := fun q d c i => match q with | 0 => task m d (LL c i) (Gv m d)
  x := fun _ _ => iprop(emp)

instance task_storable (d : Dev nD) (L : grid0.Coords) (f : S2097152.Idx → Elt F .f32) : BI.Storable (upEmb : UEmb _ 𝕄) (task m d L f) := by
  unfold task; infer_instance
instance tasks_storable (d : Dev nD) (c : Fin ((K (F := F)).nCore 0)) (f : S2097152.Idx → Elt F .f32) :
    BI.Storable (upEmb : UEmb _ 𝕄) (tasks m d c f) := by
  unfold tasks; infer_instance

instance P_storable : (P (F := F) m).IsStorable where
  st q d c := match q with | 0 => tasks_storable m d c (Yv m d)
  dn q d c := match q with | 0 => tasks_storable m d c (Gv m d)
  go q d c i := match q with | 0 => task_storable m d (LL c i) (Yv m d)
  td q d c i := match q with | 0 => task_storable m d (LL c i) (Gv m d)

omit [FloatOps F] in
/-- What is handed on whole is handed back whole. -/
theorem hand_on {A B : sProp 𝕄} : A ⊢ |={Set.univ}=> iprop(A ∗ (B -∗ B)) := by
  iintro H; imodintro
  isplitl [H]; · iexact H
  iintro H; iexact H

theorem vecSplit : (K (F := F)).VecSplit' (P m) 0 := by
  intro d c
  change tasks m d c (Yv m d) ⊢ |={Set.univ}=> iprop((bigSep Finset.univ fun i : Fin ((K (F := F)).nSub 0) => task m d (LL c i) (Yv m d))
    ∗ ((bigSep Finset.univ fun i : Fin ((K (F := F)).nSub 0) => task m d (LL c i) (Gv m d)) -∗ tasks m d c (Gv m d)))
  unfold tasks
  exact hand_on

/-! ## The obligation -/

theorem defs₀_vector (c : Fin τ.nSC) (s : Fin τ.nSub) :
    defs₀ (F := F) (.scVector c s) 0 () = SparseCore.onTile hcore0 hsub0 (fun c s => tileBody F (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (qs (LL c i)) (Xv m d) (NVv m d) (Yv m d) (Gv m d) O W hF hO
    (fun s y => outVal_chunk _ s (Xv m d) (NVv m d) y)).trans (wp_mono frame _ _ fun _ => obl_post)

end Cert.Proof.Ext

end
-- ==== Proof.Main.lean ====
/-
  @main around the call, and the run of the whole program: the result holds the input at the odd positions and the fill at
  the even ones, reshaped; the argument is unchanged; every counter is back at zero.
-/
module

public import proofs.«01_k».proof.Proof.Launch

@[expose] public section

noncomputable section

namespace Cert.Proof.Ext

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

/-! ## The arrays and the tasks' parts of them -/

theorem fill_all (d : Dev nD) (f : Buf (Elt F) (nLoc d)) : (nLoc d ↦{fullShare} f : sProp 𝕄)
    = bigSep Finset.univ fun c : Fin 2 => bigSep Finset.univ fun i : Fin 16 => bigSep Finset.univ fun s : Fin 8 => fillPts d (coordsV c i) (qs (coordsV c i)) f s := by
  rw [Transfers.pointsTo_deal (ℓ := nLoc d) (Finset.univ : Finset (Fin 256)) ⟨0, Finset.mem_univ _⟩ fullShare, bigSep_num]
  refine bigSep_congr fun c _ => bigSep_congr fun i _ => bigSep_congr fun s _ => ?_
  show _ = (nLoc d ↦[nHbm.view.set]{qs (coordsV c i) s} f : sProp 𝕄)
  rw [show nHbm.view.set = Finset.univ from View.set_whole _]
  rfl
theorem in_all (d : Dev nD) (f : Buf (Elt F) (xLoc d)) : (xLoc d ↦{fullShare} f : sProp 𝕄)
    = bigSep Finset.univ fun c : Fin 2 => bigSep Finset.univ fun i : Fin 16 => bigSep Finset.univ fun s : Fin 8 => srcPts d (coordsV c i) f s := by
  have h : (xLoc d ↦{fullShare} f : sProp 𝕄) = bigSep Finset.univ fun k => xLoc d ↦[xSet k]{fullShare} f := by
    rw [← pointsTo_biUnion Finset.univ (ℓ := xLoc d) xSet xSet_disjoint, xSet_cover]
  rw [h, bigSep_num]
  refine bigSep_congr fun c _ => bigSep_congr fun i _ => bigSep_congr fun s _ => ?_
  show _ = (xLoc d ↦[(srcCh (coordsV c i) s).view.set]{fullShare} f : sProp 𝕄)
  rw [set_srcCh]; rfl
theorem out_all (d : Dev nD) (f : Buf (Elt F) (oLoc d)) : (oLoc d ↦{fullShare} f : sProp 𝕄)
    = bigSep Finset.univ fun c : Fin 2 => bigSep Finset.univ fun i : Fin 16 => bigSep Finset.univ fun s : Fin 8 => dstPts d (coordsV c i) f s := by
  have h : (oLoc d ↦{fullShare} f : sProp 𝕄) = bigSep Finset.univ fun k => oLoc d ↦[oSet k]{fullShare} f := by
    rw [← pointsTo_biUnion Finset.univ (ℓ := oLoc d) oSet oSet_disjoint, oSet_cover]
  rw [h, bigSep_num]
  refine bigSep_congr fun c _ => bigSep_congr fun i _ => bigSep_congr fun s _ => ?_
  show _ = (oLoc d ↦[(dstCh (coordsV c i) s).view.set]{fullShare} f : sProp 𝕄)
  rw [set_dstCh]; rfl

variable [FloatOps F] (m : (ℓ : Loc nD τ sig) → Buf (Elt F) ℓ) (ρ : Dev nD → PrngReg)

/-- The call's three arrays. -/
abbrev callPts (d : Dev nD) (f : S2097152.Idx → Elt F .f32) : sProp 𝕄 :=
  iprop((nLoc d ↦{fullShare} NVv m d) ∗ (xLoc d ↦{fullShare} Xv m d) ∗ oLoc d ↦{fullShare} f)

/-- They are all the tasks' parts. -/
theorem tasks_all (d : Dev nD) (f : S2097152.Idx → Elt F .f32) :
    (bigSep Finset.univ fun c : Fin ((K (F := F)).nCore 0) => tasks m d c f) = callPts m d f := by
  unfold tasks task
  unfold callPts
  rw [fill_all d (NVv m d), in_all d (Xv m d), out_all d f]
  simp only [bigSep_sep']
  rfl

theorem st0_eq (d : Dev nD) : (bigSep Finset.univ fun c : Fin ((K (F := F)).nCore 0) => (P m).st 0 d c) = callPts m d (Yv m d) := tasks_all m d (Yv m d)
theorem dn0_eq (d : Dev nD) : (bigSep Finset.univ fun c : Fin ((K (F := F)).nCore 0) => (P m).dn 0 d c) = callPts m d (Gv m d) := tasks_all m d (Gv m d)

/-! ## The ghost state at launch -/

theorem emps_eq {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps_eq]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps_eq]
  iempintro

/-! ## The TensorCore's arrays -/

abbrev S6 : Finset (DevRef τ sig) := {a', c', n', x', o', r'}

omit [FloatOps F] in
theorem held_S6 (d : Dev nD) (W : Valuation τ sig (Elt F)) :
    (held (T d) S6 W : sProp 𝕄)
      = iprop((aLoc d ↦{fullShare} W a') ∗ (cLoc d ↦{fullShare} W c') ∗ (nLoc d ↦{fullShare} W n') ∗ (xLoc d ↦{fullShare} W x')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S6 (V0 m d) := by
  rw [held_S6]
  unfold unscopedBufs
  rw [show (Finset.univ.filter fun b : Ref sig .tc => ¬ b.isScoped) = {main_arg0, main_cst, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

theorem hCst : (opCst (F := F)).bufs ⊆ S6 := show ({c'} : Finset (DevRef τ sig)) ⊆ S6 by decide
theorem hFill : (opFill (F := F)).bufs ⊆ S6 := show ({c', n'} : Finset (DevRef τ sig)) ⊆ S6 by decide
theorem hIn : (opIn (F := F)).bufs ⊆ S6 := show ({a', x'} : Finset (DevRef τ sig)) ⊆ S6 by decide
theorem hOut : (opOut (F := F)).bufs ⊆ S6 := show ({o', r'} : Finset (DevRef τ sig)) ⊆ S6 by decide

theorem V3_a (d : Dev nD) : V3 m d a' = m (aLoc d) := by
  unfold V3
  rw [(opIn (F := F)).result_of_not_mem _ (show a' ∉ ({x'} : Finset (DevRef τ sig)) by decide),
    (opFill (F := F)).result_of_not_mem _ (show a' ∉ ({n'} : Finset (DevRef τ sig)) by decide),
    (opCst (F := F)).result_of_not_mem _ (show a' ∉ ({c'} : Finset (DevRef τ sig)) by decide)]
  rfl
theorem V4_o (d : Dev nD) : V4 m d o' = Gv m d := Function.update_self _ _ _
theorem V4_ne (d : Dev nD) {b : DevRef τ sig} (h : b ≠ o') : V4 m d b = V3 m d b := Function.update_of_ne h _ _

/-- The arrays before the call, and after the reshape of its output. -/
theorem held_V3 (d : Dev nD) :
    (held (T d) S6 ((opIn (F := F)).result ((opFill (F := F)).result ((opCst (F := F)).result (V0 m d)))) : sProp 𝕄)
      = iprop((aLoc d ↦{fullShare} m (aLoc d)) ∗ (cLoc d ↦{fullShare} V3 m d c') ∗ (nLoc d ↦{fullShare} NVv m d) ∗ (xLoc d ↦{fullShare} Xv m d)
          ∗ (oLoc d ↦{fullShare} Yv m d) ∗ rLoc d ↦{fullShare} V3 m d r') := by
  show held (SparseCore.T d) S6 (V3 m d) = _
  rw [held_S6, V3_a]; rfl
theorem held_V4 (d : Dev nD) :
    (held (T d) S6 (V4 m d) : sProp 𝕄)
      = iprop((aLoc d ↦{fullShare} m (aLoc d)) ∗ (cLoc d ↦{fullShare} V3 m d c') ∗ (nLoc d ↦{fullShare} NVv m d) ∗ (xLoc d ↦{fullShare} Xv m d)
          ∗ (oLoc d ↦{fullShare} Gv m d) ∗ rLoc d ↦{fullShare} V3 m d r') := by
  rw [held_S6, V4_ne m d (b := a') (by decide), V4_ne m d (b := c') (by decide), V4_ne m d (b := n') (by decide), V4_ne m d (b := x') (by decide),
    V4_o, V4_ne m d (b := r') (by decide), V3_a]; rfl
theorem held_V5 (d : Dev nD) :
    (held (T d) S6 ((opOut (F := F)).result (V4 m d)) : sProp 𝕄)
      = iprop((aLoc d ↦{fullShare} m (aLoc d)) ∗ (cLoc d ↦{fullShare} (opOut (F := F)).result (V4 m d) c')
          ∗ (nLoc d ↦{fullShare} (opOut (F := F)).result (V4 m d) n') ∗ (xLoc d ↦{fullShare} (opOut (F := F)).result (V4 m d) x')
          ∗ (oLoc d ↦{fullShare} (opOut (F := F)).result (V4 m d) o') ∗ rLoc d ↦{fullShare} Rv m d) := by
  rw [held_S6, (opOut (F := F)).result_of_not_mem (V4 m d) (b := a') (show a' ∉ ({r'} : Finset (DevRef τ sig)) by decide),
    V4_ne m d (b := a') (by decide), V3_a]; rfl

/-! ## @main -/

/-- What @main leaves: the argument, and the result. -/
abbrev FIN (d : Dev nD) : sProp 𝕄 := iprop((aLoc d ↦{fullShare} m (aLoc d)) ∗ rLoc d ↦{fullShare} Rv m d)

/-- @main on device `d`'s TensorCore: the fill and the reshape of the argument, the call, the reshape of its output. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCst) (S := S6) hCst (V := V0 m d)) $$ [Hb Hheld]
  · isplitl [Hb] <;> iassumption
  iintro ⟨Hb, Hheld⟩
  rw [wp_ret]; imodintro
  iapply (wp_hlo_within 𝒱 (SparseCore.T d) none Set.univ (op := opFill) (S := S6) hFill (V := (opCst (F := F)).result (V0 m d))) $$ [Hb Hheld]
  · isplitl [Hb] <;> iassumption
  iintro ⟨Hb, Hheld⟩
  rw [wp_ret]; imodintro
  iapply (wp_hlo_within 𝒱 (SparseCore.T d) none Set.univ (op := opIn) (S := S6) hIn (V := (opFill (F := F)).result ((opCst (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Ha, Hc, Hn, Hx, Ho, Hr⟩
  iapply ((K (F := F)).wp_run (D (F := F)) 𝒱 (EH := EH) (P := P m) κ d 0) $$ [Hst Ha Hx Ho Hb Hc Hn Hr Hts]
  isplitr; · iexact Hctx
  isplitl [Hst]; · iexact Hst
  isplitl [Hn Hx Ho]
  · rw [st0_eq]
    isplitl [Hn]; · iexact Hn
    isplitl [Hx]; · iexact Hx
    iexact Ho
  iintro ⟨Hst, Hdn⟩
  ihave Hdn' := (Entails.of_eq (dn0_eq m d)) $$ Hdn
  icases Hdn' with ⟨Hn, Hx, Ho⟩
  iapply (wp_hlo_within 𝒱 (SparseCore.T d) none Set.univ (op := opOut) (S := S6) hOut (V := V4 m d)) $$ [Hb Ha Hx Hc Hn Ho Hr]
  · isplitl [Hb]; · iexact Hb
    rw [held_V4]
    isplitl [Ha]; · iexact Ha
    isplitl [Hc]; · iexact Hc
    isplitl [Hn]; · iexact Hn
    isplitl [Hx]; · iexact Hx
    isplitl [Ho]; · iexact Ho
    iexact Hr
  iintro ⟨Hb, Hheld⟩
  ihave Hh := (Entails.of_eq (held_V5 (F := F) m d)) $$ Hheld
  icases Hh with ⟨Ha, -, -, -, -, Hr⟩
  rw [wp_ret]; imodintro; imodintro
  isplitl [Hst]; · iexact Hst
  isplitr [Hb Hts]
  · isplitl [Ha]; · iexact Ha
    iexact Hr
  isplitl [Hb] <;> iassumption

/-! ## The run -/

def fq (d : Dev nD) (s' : Phys nD τ sig (Elt F)) : Prop := s'.mem.mem (rLoc d) = Rv m d ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := Rv m d)) $$ [HSI Hr]
  · isplitl [HSI] <;> iassumption
  icases H with %h2
  ipureintro; exact ⟨funext fun i => h2 i (Finset.mem_univ i), funext fun i => h1 i (Finset.mem_univ i)⟩

def QC : PUnit × MemSt nD τ sig (Elt F) → Prop := fun r => (∀ c : Dev nD, r.2.mem (rLoc c) = Rv m c ∧ r.2.mem (aLoc c) = m (aLoc c)) ∧ r.2.sem = fun _ => 0

/-- The kernel's run: its result, its argument, its counters. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Ext

end
-- ==== Proof.Ref.lean ====
/-
  The reference's two scatters read at an element: the odd positions take the updates of the first, the even ones those of
  the second, and each scatter leaves zero elsewhere. So their sum, over the ideal values, is the kernel's output.
-/
module

public import proofs.«01_k».proof.Proof.Main
public import proofs.«01_k».proof.Proof.Gen.ReferenceIdeal.Run
public import Idealize.ShloMosaic.Lib.Routing.OpsSet
public import Idealize.ShloMosaic.Lib.Routing.Words

@[expose] public section

noncomputable section

namespace Cert.Proof.Ref

open Idealize.ShloMosaic Idealize.ShloMosaic.Routing Idealize.ShloMosaic.ValueIdx

open Cert.ReferenceIdeal Cert.ReferenceIdeal.Gen

/-- The reference's scatters: their dimension numbers. -/
abbrev dims : ScatterDims S2097152 S1048576x1 S1048576 := scatter_S2097152_S1048576x1_S1048576_n_0_0_1

/-- Update `i` starts at its index word. -/
theorem start_at (idx : IVec S1048576x1 32) (i : Fin 1048576) : dims.start (ix1 i) idx 0 = (idx (ix2 i (0 : Fin 1))).toInt := by
  have word : ∀ c, dims.siIdx (ix1 i) c = ix2 i (0 : Fin 1) := fun c => by
    funext a
    match a with
    | 0 => rfl
    | 1 => exact Subsingleton.elim (α := Fin 1) _ _
  refine (dif_pos (List.mem_singleton.2 rfl)).trans ?_
  rw [word]
/-- An update is one element. -/
theorem window_at (i : Fin 1048576) : dims.window (ix1 i) 0 = 0 := rfl

/-- Update `i` lands where its index word, read signed, says. -/
theorem lands (idx : IVec S1048576x1 32) (i : Fin 1048576) (x : Fin 2097152) :
    dims.resultIdx? (ix1 i) idx = some (ix1 x) ↔ (idx (ix2 i (0 : Fin 1))).toInt = (x.val : Int) := by
  rw [resultIdx?_ix1, start_at, window_at, Int.ofNat_zero, add_zero]

/-- The scatter that sets, at index words `2 * i + b` (`b` at most one), read at entry `x`: update `x / 2` if `x` is `b` modulo two, else
    the operand's entry. -/
theorem scatter_step {α : Type} {b : Nat} (hb : b < 2) (x0 : S2097152.Idx → α) (idx : IVec S1048576x1 32)
    (hidx : ∀ i : Fin 1048576, idx (ix2 i (0 : Fin 1)) = BitVec.ofNat 32 (2 * i.val + b)) (upd : S1048576.Idx → α) (x : Fin 2097152) :
    Host.scatter dims (fun _ b => b) x0 idx upd (ix1 x) = if x.val % 2 = b then upd (ix1 ⟨x.val / 2, by have := x.isLt; omega⟩) else x0 (ix1 x) := by
  have hl : ∀ i : Fin 1048576, dims.resultIdx? (ix1 i) idx = some (ix1 x) ↔ 2 * i.val + b = x.val := fun i => by
    have := i.isLt
    rw [lands, hidx, StableHlo.Predicate.toInt_ofNat_small _ (by omega)]; omega
  have hx := x.isLt
  split
  · next h =>
    refine scatter_set_hit dims x0 idx upd (ix1 x) _ (fun k hk => ?_) (ix1 ⟨x.val / 2, by omega⟩) ((hl _).2 (by show 2 * (x.val / 2) + b = x.val; omega))
    obtain ⟨i, rfl⟩ : ∃ i : Fin 1048576, k = ix1 i := ⟨k 0, eq_ix1 k⟩
    have h2 := (hl i).1 hk
    exact congrArg (fun t => upd (ix1 t)) (Fin.ext (by show i.val = x.val / 2; omega))
  · next h =>
    refine scatter_set_miss dims x0 idx upd (ix1 x) fun k hk => ?_
    obtain ⟨i, rfl⟩ : ∃ i : Fin 1048576, k = ix1 i := ⟨k 0, eq_ix1 k⟩
    have h2 := (hl i).1 hk
    omega

/-- A word not negative is kept by the wrap of negative indices. -/
theorem wrapped {a : Nat} (ha : a < 2 ^ 31) (w : BitVec 32) : Scalar.select (IntOp.cmpi .slt (BitVec.ofNat 32 a) 0#32) w (BitVec.ofNat 32 a) = BitVec.ofNat 32 a :=
  wrap_of_lt _ _ (by rw [BitVec.toNat_ofNat, Nat.mod_eq_of_lt (by omega)]; exact ha)

abbrev twos : IVec S1048576 32 := broadcastInDim S1048576 ![] bcast_S_S1048576 (constantI S_ 32 2#32)
abbrev evens : IVec S1048576 32 := muli twos (iotaInDim S1048576 32 0)
abbrev odds : IVec S1048576 32 := addi evens (broadcastInDim S1048576 ![] bcast_S_S1048576 (constantI S_ 32 1#32))
/-- The wrap of negative indices, and the column of index words. -/
abbrev col (v : IVec S1048576 32) : IVec S1048576x1 32 :=
  broadcastInDim S1048576x1 ![0] bcast_S1048576_S1048576x1_0
    (select (cmpi .slt v (broadcastInDim S1048576 ![] bcast_S_S1048576 (constantI S_ 32 0#32)))
      (addi v (broadcastInDim S1048576 ![] bcast_S_S1048576 (constantI S_ 32 2097152#32))) v)

theorem col_at (v : IVec S1048576 32) (i : Fin 1048576) {a : Nat} (ha : a < 2 ^ 31) (hv : v (ix1 i) = BitVec.ofNat 32 a) :
    col v (ix2 i (0 : Fin 1)) = BitVec.ofNat 32 a := by
  unfold col
  rw [bcCol bcast_S1048576_S1048576x1_0 _ i]
  show Scalar.select (IntOp.cmpi .slt (v (ix1 i)) 0#32) (v (ix1 i) + 2097152#32) (v (ix1 i)) = _
  rw [hv, wrapped ha]

theorem evens_at (i : Fin 1048576) : evens (ix1 i) = BitVec.ofNat 32 (2 * i.val + 0) := by
  show 2#32 * BitVec.ofNat 32 i.val = _
  rw [← BitVec.ofNat_mul]; rfl
theorem odds_at (i : Fin 1048576) : odds (ix1 i) = BitVec.ofNat 32 (2 * i.val + 1) := by
  show 2#32 * BitVec.ofNat 32 i.val + 1#32 = _
  rw [← BitVec.ofNat_mul, ← BitVec.ofNat_add]

abbrev zeros : S2097152.Idx → Ideal .f32 := broadcastInDim S2097152 ![] bcast_S_S2097152 (constant (F := Ideal) S_ .f32 0x00000000#32)
abbrev fills : S1048576.Idx → Ideal .f32 := broadcastInDim S1048576 ![] bcast_S_S1048576 (constant (F := Ideal) S_ .f32 0x7FC00000#32)

theorem zeros_at (j : S2097152.Idx) : zeros j = (0 : EReal) := by
  show Ideal.ofBits .f32 0x00000000#32 = 0
  simp [Ideal.ofBits, Ideal.ieee]
theorem fills_at (j : S1048576.Idx) : fills j = Ideal.ofBits .f32 0x7FC00000#32 := rfl

/-- The first scatter, read at an element. -/
theorem scatter_x (X : S1048576.Idx → Ideal .f32) (x : Fin 2097152) :
    Host.scatter dims (fun _ b => b) zeros (col odds) X (ix1 x)
      = if x.val % 2 = 1 then X (Ext.halfPos (ix1 x)) else (0 : EReal) := by
  refine (scatter_step (b := 1) (by norm_num) zeros (col odds) (fun i => col_at odds i (by have := i.isLt; omega) (odds_at i)) X x).trans ?_
  rw [zeros_at]
  have e : (ix1 ⟨x.val / 2, by have := x.isLt; omega⟩ : S1048576.Idx) = Ext.halfPos (ix1 x) := by
    funext a; match a with | 0 => rfl
  rw [e]
/-- The second. -/
theorem scatter_n (x : Fin 2097152) :
    Host.scatter dims (fun _ b => b) zeros (col evens) fills (ix1 x)
      = if x.val % 2 = 0 then Ideal.ofBits .f32 0x7FC00000#32 else (0 : EReal) := by
  refine (scatter_step (b := 0) (by norm_num) zeros (col evens) (fun i => col_at evens i (by have := i.isLt; omega) (evens_at i)) fills x).trans ?_
  rw [zeros_at, fills_at]

/-- A sum with a zero on one side. -/
theorem sum_at (a b c : Ideal .f32) (A B : Ideal .f32) (p : Nat) (hA : A = if p % 2 = 1 then a else (0 : EReal)) (hB : B = if p % 2 = 0 then b else (0 : EReal))
    (hc : c = if p % 2 = 1 then a else b) : FloatOps.addf (F := Ideal) (φ := .f32) A B = c := by
  subst hA hB hc
  by_cases h : p % 2 = 1
  · rw [if_pos h, if_neg (by omega), if_pos h]; exact add_zero (M := EReal) a
  · rw [if_neg h, if_pos (by omega), if_neg h]; exact zero_add (M := EReal) b

/-- The interleaving, read at an element. -/
theorem outVal_at {α : Type} (X : S1048576.Idx → α) (NV : Cert.KernelIdeal.S8192.Idx → α) (b : α) (hNV : ∀ y, NV y = b) (x : Fin 2097152) :
    Ext.outVal X NV (ix1 x) = if x.val % 2 = 1 then X (Ext.halfPos (ix1 x)) else b := by
  unfold Ext.outVal
  rw [hNV]

/-- A sum of two arrays is the interleaving if each holds its half of it. -/
theorem sum_val (X : S1048576.Idx → Ideal .f32) (NV : Cert.KernelIdeal.S8192.Idx → Ideal .f32) (b : Ideal .f32) (hNV : ∀ y, NV y = b) (A B : S2097152.Idx → Ideal .f32)
    (hA : ∀ x : Fin 2097152, A (ix1 x) = if x.val % 2 = 1 then X (Ext.halfPos (ix1 x)) else (0 : EReal))
    (hB : ∀ x : Fin 2097152, B (ix1 x) = if x.val % 2 = 0 then b else (0 : EReal)) : addf (F := Ideal) (φ := .f32) A B = Ext.outVal X NV := by
  funext j
  obtain ⟨x, rfl⟩ : ∃ x : Fin 2097152, j = ix1 x := ⟨j 0, eq_ix1 j⟩
  exact sum_at (X (Ext.halfPos (ix1 x))) b _ (A (ix1 x)) (B (ix1 x)) x.val (hA x) (hB x) (outVal_at X NV b hNV x)

/-- The sum of the two scatters is the interleaving. -/
theorem ref_val (X : S1048576.Idx → Ideal .f32) (NV : Cert.KernelIdeal.S8192.Idx → Ideal .f32) (hNV : ∀ y, NV y = Ideal.ofBits .f32 0x7FC00000#32) :
    addf (F := Ideal) (φ := .f32) (Host.scatter dims (fun _ b => b) zeros (col odds) X)
      (Host.scatter dims (fun _ b => b) zeros (col evens) fills)
      = Ext.outVal X NV :=
  sum_val X NV _ hNV _ _ (scatter_x X) scatter_n

/-- The reference's result as a function of its flattened argument. -/
def refOut (X : S1048576.Idx → Ideal .f32) : S16384x128.Idx → Ideal .f32 :=
  shapeCast S16384x128 (addf (F := Ideal) (φ := .f32) (Host.scatter dims (fun _ b => b) zeros (col odds) X)
    (Host.scatter dims (fun _ b => b) zeros (col evens) fills)) shapeCasts_S2097152_S16384x128

end Cert.Proof.Ref

end
-- ==== Proof.lean ====
/-
  The claims. The kernel's run is `Ext.run_main`, at any float values: at the bit patterns it is the program's frame, at the
  ideal values the idealization's. The reference's run is the generated one; its value is the kernel's by `Ref.ref_val`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Main
public import proofs.«01_k».proof.Proof.Ref
public import Idealize.ShloMosaic.Adequacy
public import Idealize.ShloMosaic.Init

@[expose] public section

noncomputable section

namespace Cert.Proof

open Idealize.ShloMosaic Idealize.SL.Sem

/-- The idealization's frame. -/
theorem frame_i : Cert.quiescent_KernelIdeal := fun m g _ =>
  (θ_run Cert.KernelIdeal.defs _ _).mono (fun _ h => ⟨fun c => (h.1 c).2, h.2⟩) (Ext.run_main (F := Ideal) m g)

/-- The reference's frame: it has no counter. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

section
open Cert.KernelIdeal Cert.KernelIdeal.Gen

variable (m : (ℓ : Loc nD τ sig) → Buf (Elt Ideal) ℓ)

/-- The fill before the call, the input before the call, the result. -/
theorem fill_eq (d : Dev nD) (y : S8192.Idx) : Ext.NVv m d y = Ideal.ofBits .f32 0x7FC00000#32 := by
  have e : Ext.NVv m d = broadcastInDim S8192 ![] bcast_S_S8192 (constant (F := Ideal) S_ .f32 0x7FC00000#32) := by
    unfold Ext.NVv Ext.V3
    rw [StableHlo.reshape_result_ne' _ _ _ _ _ (by decide), StableHlo.unary_result', StableHlo.nullary_result']
  rw [e]; rfl
theorem in_eq (d : Dev nD) : Ext.Xv m d = shapeCast S1048576 (m (Ext.aLoc d)) shapeCasts_S8192x128_S1048576 := by
  unfold Ext.Xv Ext.V3
  rw [StableHlo.reshape_result', StableHlo.unary_result_ne' _ _ _ _ (by decide), StableHlo.nullary_result_ne' _ _ _ (by decide)]
  rfl
theorem out_eq (d : Dev nD) : Ext.Rv m d = shapeCast S16384x128 (Ext.Gv m d) shapeCasts_S2097152_S16384x128 := by
  unfold Ext.Rv
  rw [StableHlo.reshape_result']
  show shapeCast S16384x128 (Ext.V4 m d Ext.o') shapeCasts_S2097152_S16384x128 = _
  rw [Ext.V4_o]

/-- The reference's term at the kernel's argument. -/
theorem ref_eq (d : Dev nD) : Ref.refOut (shapeCast S1048576 (m (Ext.aLoc d)) shapeCasts_S8192x128_S1048576) = Ext.Rv m d := by
  rw [out_eq, ← in_eq]
  unfold Ext.Gv Ref.refOut
  rw [Ref.ref_val _ (Ext.NVv m d) (fill_eq m d)]
end

/-- The kernel's result is the reference's, element by element. -/
theorem algebraic : Cert.algebraic_KernelIdeal_ReferenceIdeal := by
  intro m g m' g' _ hagree
  refine ⟨fun c => Ext.Rv m c, (θ_run Cert.KernelIdeal.defs _ _).mono (fun _ h c => h.1 c) (Ext.run_main (F := Ideal) m g), ?_⟩
  refine (θ_run Cert.ReferenceIdeal.defs _ _).mono (fun _ h c => ⟨(h c).1.trans ?_, (h c).2⟩) (Cert.ReferenceIdeal.Value.run (F := Ideal) m' g')
  exact (congrArg (fun v => Ref.refOut (shapeCast Cert.ReferenceIdeal.S1048576 v Cert.ReferenceIdeal.Gen.shapeCasts_S8192x128_S1048576)) (hagree c)).trans
    (ref_eq m c)

/-- The program's frame: its text is the idealization's, read at the bit patterns. -/
theorem frame_p : Cert.quiescent_Kernel := fun m g _ =>
  (θ_run Cert.KernelIdeal.defs _ _).mono (fun _ h => ⟨fun c => (h.1 c).2, h.2⟩) (Ext.run_main (F := Bits) m g)

theorem claim : Cert.Claim :=
  ⟨Cert.Kernel.Gen.facts, Cert.KernelIdeal.Gen.facts, Cert.ReferenceIdeal.Gen.facts, frame_p, frame_i, frame_r, trivial, algebraic⟩

end Cert.Proof

end
